-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_products_within_60_KernelIdeal [hPre_products_within_60_KernelIdeal : Cert.Pre_products_within_60_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_products_within_60_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_products_within_60_ReferenceIdeal [hPre_products_within_60_ReferenceIdeal : Cert.Pre_products_within_60_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_products_within_60_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_products_within_60_KernelIdeal [hKernelIdeal : Cert.KernelIdeal.Facts] [hPre_products_within_60_KernelIdeal : Cert.Pre_products_within_60_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_products_within_60_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_products_within_60_ReferenceIdeal [hReferenceIdeal : Cert.ReferenceIdeal.Facts] [hPre_products_within_60_ReferenceIdeal : Cert.Pre_products_within_60_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_products_within_60_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v6) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_pre_products_within_60_KernelIdeal [hKernelIdeal : Cert.KernelIdeal.Facts] [hReferenceIdeal : Cert.ReferenceIdeal.Facts] [hPre_products_within_60_KernelIdeal : Cert.Pre_products_within_60_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_products_within_60_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hPre_products_within_60_KernelIdeal : Cert.Pre_products_within_60_KernelIdeal.Facts) (hPre_products_within_60_ReferenceIdeal : Cert.Pre_products_within_60_ReferenceIdeal.Facts),
    quiescent_Kernel (hKernel := hKernel)
    ∧ quiescent_KernelIdeal (hKernelIdeal := hKernelIdeal)
    ∧ quiescent_KernelIdeal_pre_products_within_60_KernelIdeal (hKernelIdeal := hKernelIdeal) (hPre_products_within_60_KernelIdeal := hPre_products_within_60_KernelIdeal)
    ∧ quiescent_ReferenceIdeal (hReferenceIdeal := hReferenceIdeal)
    ∧ quiescent_ReferenceIdeal_pre_products_within_60_ReferenceIdeal (hReferenceIdeal := hReferenceIdeal) (hPre_products_within_60_ReferenceIdeal := hPre_products_within_60_ReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_pre_products_within_60_KernelIdeal (hKernelIdeal := hKernelIdeal) (hReferenceIdeal := hReferenceIdeal) (hPre_products_within_60_KernelIdeal := hPre_products_within_60_KernelIdeal)
-- ==== Pre_products_within_60_KernelIdeal.lean ====
abbrev S128x4096 : Shape := ⟨2, ![128, 4096]⟩
abbrev S4096x8192 : Shape := ⟨2, ![4096, 8192]⟩
abbrev S128x8192 : Shape := ⟨2, ![128, 8192]⟩
abbrev S_ : Shape := ⟨0, ![]⟩

class Facts : Prop where
  bitsLt_bf16_f32 : FTy.bits .bf16 < FTy.bits .f32
  bcast_S_S128x8192 : S_.BroadcastsInDim S128x8192 (![] : Fin 0 → Fin S128x8192.rank)
  reducesTo_S128x8192_S_d0_1 : S128x8192.ReducesTo [0, 1] S_
  h_S_ : 0 < S_.numel
  dot_S128x4096_S4096x8192_S128x8192_1_0_0_1_n_n_wf : DotDims.WF S128x4096 S4096x8192 S128x8192 [1] [0] [0] [1] [] []

variable [Facts]

def dot_S128x4096_S4096x8192_S128x8192_1_0_0_1_n_n : DotDims S128x4096 S4096x8192 S128x8192 where
  lhsContracting := [1]
  rhsContracting := [0]
  lhsNonContracting := [0]
  rhsNonContracting := [1]
  lhsBatch := []
  rhsBatch := []
  wf := dot_S128x4096_S4096x8192_S128x8192_1_0_0_1_n_n_wf
def fn {F : FTy → Type} [FloatOps F] (main_arg0 : FVec F S128x4096 .bf16) (main_arg1 : FVec F S4096x8192 .f32) : IVec S_ 1 :=
  let main_v0 : FVec F S128x4096 .f32 := (extf .f32 · bitsLt_bf16_f32) main_arg0
  let main_v1 : FVec F S128x8192 .f32 := (fun l r => Host.dotGeneral dot_S128x4096_S4096x8192_S128x8192_1_0_0_1_n_n none l r) main_v0 main_arg1
  let main_v2 : FVec F S128x8192 .f32 := Host.absf main_v1
  let main_cst : FVec F S_ .f32 := constant S_ .f32 0x42700000#32
  let main_v3 : FVec F S128x8192 .f32 := broadcastInDim S128x8192 ![] bcast_S_S128x8192 main_cst
  let main_v4 : IVec S128x8192 1 := cmpf .ole main_v2 main_v3
  let main_c : IVec S_ 1 := constantI S_ 1 1#1
  let main_v5 : IVec S_ 1 := (fun x v => Host.reduce IntOp.andi x v reducesTo_S128x8192_S_d0_1 h_S_) main_v4 main_c
  main_v5
-- ==== Pre_products_within_60_ReferenceIdeal.lean ====
abbrev S4096x4096 : Shape := ⟨2, ![4096, 4096]⟩
abbrev S4096x8192 : Shape := ⟨2, ![4096, 8192]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .bf16) (main_arg1 : FVec F S4096x8192 .f32) : IVec S_ 1 :=
  let main_v0 : FVec F S4096x4096 .f32 := (extf .f32 · bitsLt_bf16_f32) main_arg0
  let main_v1 : FVec F S4096x8192 .f32 := (fun l r => Host.dotGeneral dot_S4096x4096_S4096x8192_S4096x8192_1_0_0_1_n_n none l r) main_v0 main_arg1
  let main_v2 : FVec F S4096x8192 .f32 := Host.absf main_v1
  let main_cst : FVec F S_ .f32 := constant S_ .f32 0x42700000#32
  let main_v3 : FVec F S4096x8192 .f32 := broadcastInDim S4096x8192 ![] bcast_S_S4096x8192 main_cst
  let main_v4 : IVec S4096x8192 1 := cmpf .ole main_v2 main_v3
  let main_c : IVec S_ 1 := constantI S_ 1 1#1
  let main_v5 : IVec S_ 1 := (fun x v => Host.reduce IntOp.andi x v reducesTo_S4096x8192_S_d0_1 h_S_) main_v4 main_c
  main_v5
-- ==== Kernel.lean ====
abbrev S128x4096 : Shape := ⟨2, ![128, 4096]⟩
abbrev S4096x8192 : Shape := ⟨2, ![4096, 8192]⟩
abbrev S4096x256 : Shape := ⟨2, ![4096, 256]⟩
abbrev S2x4096x256 : Shape := ⟨3, ![2, 4096, 256]⟩
abbrev S2x128x256 : Shape := ⟨3, ![2, 128, 256]⟩
abbrev S32x128x256 : Shape := ⟨3, ![32, 128, 256]⟩
abbrev S2 : Shape := ⟨1, ![2]⟩
abbrev S_ : Shape := ⟨0, ![]⟩
abbrev S32 : Shape := ⟨1, ![32]⟩
abbrev S1 : Shape := ⟨1, ![1]⟩
abbrev S1x4096x256 : Shape := ⟨3, ![1, 4096, 256]⟩
abbrev S128x256 : Shape := ⟨2, ![128, 256]⟩
abbrev S1x128x256 : Shape := ⟨3, ![1, 128, 256]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .bf16⟩
  | .hbm, ⟨1, _⟩ => ⟨S4096x8192, .f32⟩
  | .hbm, ⟨2, _⟩ => ⟨S4096x256, .f32⟩
  | .local _ .vmem, ⟨0, _⟩ => ⟨S128x4096, .bf16⟩
  | .local _ .vmem, ⟨1, _⟩ => ⟨S4096x256, .f32⟩
  | .local _ .vmem, ⟨2, _⟩ => ⟨S2x4096x256, .f32⟩
  | .local _ .vmem, ⟨3, _⟩ => ⟨S2x128x256, .bf16⟩
  | .local _ .vmem, ⟨4, _⟩ => ⟨S32x128x256, .bf16⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c0_i32_280 : BitVec 32) : Fin 2 → Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v407 : BitVec 32 := Scalar.addi v2 c0_i32_280
  let c1_i32_281 : BitVec 32 := 1#32
  let v408 : BitVec 32 := Scalar.addi v407 c1_i32_281
  let c32_i32_282 : BitVec 32 := 32#32
  let c0_i32_283 : BitVec 32 := 0#32
  let v409 : BitVec 1 := Scalar.cmpi .eq c32_i32_282 c0_i32_283
  let c1_i32_284 : BitVec 32 := 1#32
  let v410 : BitVec 32 := Scalar.select v409 c1_i32_284 c32_i32_282
  let v411 : BitVec 32 := Scalar.remsi v408 v410
  let c0_i32_286 : BitVec 32 := 0#32
  let v413 : BitVec 1 := Scalar.cmpi .slt v411 c0_i32_286
  let c0_i32_287 : BitVec 32 := 0#32
  let v414 : BitVec 1 := Scalar.cmpi .slt v410 c0_i32_287
  let v415 : BitVec 1 := Scalar.xori v413 v414
  let c0_i32_285 : BitVec 32 := 0#32
  let v412 : BitVec 1 := Scalar.cmpi .ne v411 c0_i32_285
  let v416 : BitVec 1 := Scalar.andi v415 v412
  let v417 : BitVec 32 := Scalar.addi v411 v410
  let v418 : BitVec 32 := Scalar.select v416 v417 v411
  let c256_i32 : BitVec 32 := 256#32
  let v419 : BitVec 32 := Scalar.muli v418 c256_i32
  ![0, v419.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_340 : BitVec 32 := 0#32
  let c0_i32_341 : BitVec 32 := 0#32
  ![v2.toNat, 0, 0]
def k0_dev32 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_328 : BitVec 32 := 0#32
  let v471 : BitVec 32 := Scalar.addi v2 c0_i32_328
  let c1_i32_329 : BitVec 32 := 1#32
  let v472 : BitVec 32 := Scalar.addi v471 c1_i32_329
  let c32_i32_330 : BitVec 32 := 32#32
  let c0_i32_331 : BitVec 32 := 0#32
  let v473 : BitVec 1 := Scalar.cmpi .eq c32_i32_330 c0_i32_331
  let c1_i32_332 : BitVec 32 := 1#32
  let v474 : BitVec 32 := Scalar.select v473 c1_i32_332 c32_i32_330
  let v475 : BitVec 32 := Scalar.remsi v472 v474
  let c0_i32_334 : BitVec 32 := 0#32
  let v477 : BitVec 1 := Scalar.cmpi .slt v475 c0_i32_334
  let c0_i32_335 : BitVec 32 := 0#32
  let v478 : BitVec 1 := Scalar.cmpi .slt v474 c0_i32_335
  let v479 : BitVec 1 := Scalar.xori v477 v478
  let c0_i32_333 : BitVec 32 := 0#32
  let v476 : BitVec 1 := Scalar.cmpi .ne v475 c0_i32_333
  let v480 : BitVec 1 := Scalar.andi v479 v476
  let v481 : BitVec 32 := Scalar.addi v475 v474
  let v482 : BitVec 32 := Scalar.select v480 v481 v475
  let c1_i32_338 : BitVec 32 := 1#32
  let v483 : BitVec 32 := Scalar.muli v482 c1_i32_338
  let v484 : BitVec 32 := Scalar.addi c0_i32_339 v483
  v484.toNat
def k0_dev33 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_380 : BitVec 32 := 1#32
  let v539 : BitVec 32 := Scalar.addi v2 c1_i32_380
  let c1_i32_381 : BitVec 32 := 1#32
  let v540 : BitVec 32 := Scalar.addi v539 c1_i32_381
  let c32_i32_382 : BitVec 32 := 32#32
  let c0_i32_383 : BitVec 32 := 0#32
  let v541 : BitVec 1 := Scalar.cmpi .eq c32_i32_382 c0_i32_383
  let c1_i32_384 : BitVec 32 := 1#32
  let v542 : BitVec 32 := Scalar.select v541 c1_i32_384 c32_i32_382
  let v543 : BitVec 32 := Scalar.remsi v540 v542
  let c0_i32_386 : BitVec 32 := 0#32
  let v545 : BitVec 1 := Scalar.cmpi .slt v543 c0_i32_386
  let c0_i32_387 : BitVec 32 := 0#32
  let v546 : BitVec 1 := Scalar.cmpi .slt v542 c0_i32_387
  let v547 : BitVec 1 := Scalar.xori v545 v546
  let c0_i32_385 : BitVec 32 := 0#32
  let v544 : BitVec 1 := Scalar.cmpi .ne v543 c0_i32_385
  let v548 : BitVec 1 := Scalar.andi v547 v544
  let v549 : BitVec 32 := Scalar.addi v543 v542
  let v550 : BitVec 32 := Scalar.select v548 v549 v543
  let c1_i32_390 : BitVec 32 := 1#32
  let v551 : BitVec 32 := Scalar.muli v550 c1_i32_390
  let v552 : BitVec 32 := Scalar.addi c0_i32_391 v551
  v552.toNat
def k0_dev34 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_440 : BitVec 32 := 2#32
  let v613 : BitVec 32 := Scalar.addi v2 c2_i32_440
  let c1_i32_441 : BitVec 32 := 1#32
  let v614 : BitVec 32 := Scalar.addi v613 c1_i32_441
  let c32_i32_442 : BitVec 32 := 32#32
  let c0_i32_443 : BitVec 32 := 0#32
  let v615 : BitVec 1 := Scalar.cmpi .eq c32_i32_442 c0_i32_443
  let c1_i32_444 : BitVec 32 := 1#32
  let v616 : BitVec 32 := Scalar.select v615 c1_i32_444 c32_i32_442
  let v617 : BitVec 32 := Scalar.remsi v614 v616
  let c0_i32_446 : BitVec 32 := 0#32
  let v619 : BitVec 1 := Scalar.cmpi .slt v617 c0_i32_446
  let c0_i32_447 : BitVec 32 := 0#32
  let v620 : BitVec 1 := Scalar.cmpi .slt v616 c0_i32_447
  let v621 : BitVec 1 := Scalar.xori v619 v620
  let c0_i32_445 : BitVec 32 := 0#32
  let v618 : BitVec 1 := Scalar.cmpi .ne v617 c0_i32_445
  let v622 : BitVec 1 := Scalar.andi v621 v618
  let v623 : BitVec 32 := Scalar.addi v617 v616
  let v624 : BitVec 32 := Scalar.select v622 v623 v617
  let c1_i32_450 : BitVec 32 := 1#32
  let v625 : BitVec 32 := Scalar.muli v624 c1_i32_450
  let v626 : BitVec 32 := Scalar.addi c0_i32_451 v625
  v626.toNat
def k0_dev35 (d0 : Dev nD) : Nat :=
  let c0_i32_511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_500 : BitVec 32 := 3#32
  let v687 : BitVec 32 := Scalar.addi v2 c3_i32_500
  let c1_i32_501 : BitVec 32 := 1#32
  let v688 : BitVec 32 := Scalar.addi v687 c1_i32_501
  let c32_i32_502 : BitVec 32 := 32#32
  let c0_i32_503 : BitVec 32 := 0#32
  let v689 : BitVec 1 := Scalar.cmpi .eq c32_i32_502 c0_i32_503
  let c1_i32_504 : BitVec 32 := 1#32
  let v690 : BitVec 32 := Scalar.select v689 c1_i32_504 c32_i32_502
  let v691 : BitVec 32 := Scalar.remsi v688 v690
  let c0_i32_506 : BitVec 32 := 0#32
  let v693 : BitVec 1 := Scalar.cmpi .slt v691 c0_i32_506
  let c0_i32_507 : BitVec 32 := 0#32
  let v694 : BitVec 1 := Scalar.cmpi .slt v690 c0_i32_507
  let v695 : BitVec 1 := Scalar.xori v693 v694
  let c0_i32_505 : BitVec 32 := 0#32
  let v692 : BitVec 1 := Scalar.cmpi .ne v691 c0_i32_505
  let v696 : BitVec 1 := Scalar.andi v695 v692
  let v697 : BitVec 32 := Scalar.addi v691 v690
  let v698 : BitVec 32 := Scalar.select v696 v697 v691
  let c1_i32_510 : BitVec 32 := 1#32
  let v699 : BitVec 32 := Scalar.muli v698 c1_i32_510
  let v700 : BitVec 32 := Scalar.addi c0_i32_511 v699
  v700.toNat
def k0_dev36 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_560 : BitVec 32 := 4#32
  let v761 : BitVec 32 := Scalar.addi v2 c4_i32_560
  let c1_i32_561 : BitVec 32 := 1#32
  let v762 : BitVec 32 := Scalar.addi v761 c1_i32_561
  let c32_i32_562 : BitVec 32 := 32#32
  let c0_i32_563 : BitVec 32 := 0#32
  let v763 : BitVec 1 := Scalar.cmpi .eq c32_i32_562 c0_i32_563
  let c1_i32_564 : BitVec 32 := 1#32
  let v764 : BitVec 32 := Scalar.select v763 c1_i32_564 c32_i32_562
  let v765 : BitVec 32 := Scalar.remsi v762 v764
  let c0_i32_566 : BitVec 32 := 0#32
  let v767 : BitVec 1 := Scalar.cmpi .slt v765 c0_i32_566
  let c0_i32_567 : BitVec 32 := 0#32
  let v768 : BitVec 1 := Scalar.cmpi .slt v764 c0_i32_567
  let v769 : BitVec 1 := Scalar.xori v767 v768
  let c0_i32_565 : BitVec 32 := 0#32
  let v766 : BitVec 1 := Scalar.cmpi .ne v765 c0_i32_565
  let v770 : BitVec 1 := Scalar.andi v769 v766
  let v771 : BitVec 32 := Scalar.addi v765 v764
  let v772 : BitVec 32 := Scalar.select v770 v771 v765
  let c1_i32_570 : BitVec 32 := 1#32
  let v773 : BitVec 32 := Scalar.muli v772 c1_i32_570
  let v774 : BitVec 32 := Scalar.addi c0_i32_571 v773
  v774.toNat
def k0_dev37 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_620 : BitVec 32 := 5#32
  let v835 : BitVec 32 := Scalar.addi v2 c5_i32_620
  let c1_i32_621 : BitVec 32 := 1#32
  let v836 : BitVec 32 := Scalar.addi v835 c1_i32_621
  let c32_i32_622 : BitVec 32 := 32#32
  let c0_i32_623 : BitVec 32 := 0#32
  let v837 : BitVec 1 := Scalar.cmpi .eq c32_i32_622 c0_i32_623
  let c1_i32_624 : BitVec 32 := 1#32
  let v838 : BitVec 32 := Scalar.select v837 c1_i32_624 c32_i32_622
  let v839 : BitVec 32 := Scalar.remsi v836 v838
  let c0_i32_626 : BitVec 32 := 0#32
  let v841 : BitVec 1 := Scalar.cmpi .slt v839 c0_i32_626
  let c0_i32_627 : BitVec 32 := 0#32
  let v842 : BitVec 1 := Scalar.cmpi .slt v838 c0_i32_627
  let v843 : BitVec 1 := Scalar.xori v841 v842
  let c0_i32_625 : BitVec 32 := 0#32
  let v840 : BitVec 1 := Scalar.cmpi .ne v839 c0_i32_625
  let v844 : BitVec 1 := Scalar.andi v843 v840
  let v845 : BitVec 32 := Scalar.addi v839 v838
  let v846 : BitVec 32 := Scalar.select v844 v845 v839
  let c1_i32_630 : BitVec 32 := 1#32
  let v847 : BitVec 32 := Scalar.muli v846 c1_i32_630
  let v848 : BitVec 32 := Scalar.addi c0_i32_631 v847
  v848.toNat
def k0_dev38 (d0 : Dev nD) : Nat :=
  let c0_i32_691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_680 : BitVec 32 := 6#32
  let v909 : BitVec 32 := Scalar.addi v2 c6_i32_680
  let c1_i32_681 : BitVec 32 := 1#32
  let v910 : BitVec 32 := Scalar.addi v909 c1_i32_681
  let c32_i32_682 : BitVec 32 := 32#32
  let c0_i32_683 : BitVec 32 := 0#32
  let v911 : BitVec 1 := Scalar.cmpi .eq c32_i32_682 c0_i32_683
  let c1_i32_684 : BitVec 32 := 1#32
  let v912 : BitVec 32 := Scalar.select v911 c1_i32_684 c32_i32_682
  let v913 : BitVec 32 := Scalar.remsi v910 v912
  let c0_i32_686 : BitVec 32 := 0#32
  let v915 : BitVec 1 := Scalar.cmpi .slt v913 c0_i32_686
  let c0_i32_687 : BitVec 32 := 0#32
  let v916 : BitVec 1 := Scalar.cmpi .slt v912 c0_i32_687
  let v917 : BitVec 1 := Scalar.xori v915 v916
  let c0_i32_685 : BitVec 32 := 0#32
  let v914 : BitVec 1 := Scalar.cmpi .ne v913 c0_i32_685
  let v918 : BitVec 1 := Scalar.andi v917 v914
  let v919 : BitVec 32 := Scalar.addi v913 v912
  let v920 : BitVec 32 := Scalar.select v918 v919 v913
  let c1_i32_690 : BitVec 32 := 1#32
  let v921 : BitVec 32 := Scalar.muli v920 c1_i32_690
  let v922 : BitVec 32 := Scalar.addi c0_i32_691 v921
  v922.toNat
def k0_dev39 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_740 : BitVec 32 := 7#32
  let v983 : BitVec 32 := Scalar.addi v2 c7_i32_740
  let c1_i32_741 : BitVec 32 := 1#32
  let v984 : BitVec 32 := Scalar.addi v983 c1_i32_741
  let c32_i32_742 : BitVec 32 := 32#32
  let c0_i32_743 : BitVec 32 := 0#32
  let v985 : BitVec 1 := Scalar.cmpi .eq c32_i32_742 c0_i32_743
  let c1_i32_744 : BitVec 32 := 1#32
  let v986 : BitVec 32 := Scalar.select v985 c1_i32_744 c32_i32_742
  let v987 : BitVec 32 := Scalar.remsi v984 v986
  let c0_i32_746 : BitVec 32 := 0#32
  let v989 : BitVec 1 := Scalar.cmpi .slt v987 c0_i32_746
  let c0_i32_747 : BitVec 32 := 0#32
  let v990 : BitVec 1 := Scalar.cmpi .slt v986 c0_i32_747
  let v991 : BitVec 1 := Scalar.xori v989 v990
  let c0_i32_745 : BitVec 32 := 0#32
  let v988 : BitVec 1 := Scalar.cmpi .ne v987 c0_i32_745
  let v992 : BitVec 1 := Scalar.andi v991 v988
  let v993 : BitVec 32 := Scalar.addi v987 v986
  let v994 : BitVec 32 := Scalar.select v992 v993 v987
  let c1_i32_750 : BitVec 32 := 1#32
  let v995 : BitVec 32 := Scalar.muli v994 c1_i32_750
  let v996 : BitVec 32 := Scalar.addi c0_i32_751 v995
  v996.toNat
def k0_dev40 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_800 : BitVec 32 := 8#32
  let v1057 : BitVec 32 := Scalar.addi v2 c8_i32_800
  let c1_i32_801 : BitVec 32 := 1#32
  let v1058 : BitVec 32 := Scalar.addi v1057 c1_i32_801
  let c32_i32_802 : BitVec 32 := 32#32
  let c0_i32_803 : BitVec 32 := 0#32
  let v1059 : BitVec 1 := Scalar.cmpi .eq c32_i32_802 c0_i32_803
  let c1_i32_804 : BitVec 32 := 1#32
  let v1060 : BitVec 32 := Scalar.select v1059 c1_i32_804 c32_i32_802
  let v1061 : BitVec 32 := Scalar.remsi v1058 v1060
  let c0_i32_806 : BitVec 32 := 0#32
  let v1063 : BitVec 1 := Scalar.cmpi .slt v1061 c0_i32_806
  let c0_i32_807 : BitVec 32 := 0#32
  let v1064 : BitVec 1 := Scalar.cmpi .slt v1060 c0_i32_807
  let v1065 : BitVec 1 := Scalar.xori v1063 v1064
  let c0_i32_805 : BitVec 32 := 0#32
  let v1062 : BitVec 1 := Scalar.cmpi .ne v1061 c0_i32_805
  let v1066 : BitVec 1 := Scalar.andi v1065 v1062
  let v1067 : BitVec 32 := Scalar.addi v1061 v1060
  let v1068 : BitVec 32 := Scalar.select v1066 v1067 v1061
  let c1_i32_810 : BitVec 32 := 1#32
  let v1069 : BitVec 32 := Scalar.muli v1068 c1_i32_810
  let v1070 : BitVec 32 := Scalar.addi c0_i32_811 v1069
  v1070.toNat
def k0_dev41 (d0 : Dev nD) : Nat :=
  let c0_i32_871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_860 : BitVec 32 := 9#32
  let v1131 : BitVec 32 := Scalar.addi v2 c9_i32_860
  let c1_i32_861 : BitVec 32 := 1#32
  let v1132 : BitVec 32 := Scalar.addi v1131 c1_i32_861
  let c32_i32_862 : BitVec 32 := 32#32
  let c0_i32_863 : BitVec 32 := 0#32
  let v1133 : BitVec 1 := Scalar.cmpi .eq c32_i32_862 c0_i32_863
  let c1_i32_864 : BitVec 32 := 1#32
  let v1134 : BitVec 32 := Scalar.select v1133 c1_i32_864 c32_i32_862
  let v1135 : BitVec 32 := Scalar.remsi v1132 v1134
  let c0_i32_866 : BitVec 32 := 0#32
  let v1137 : BitVec 1 := Scalar.cmpi .slt v1135 c0_i32_866
  let c0_i32_867 : BitVec 32 := 0#32
  let v1138 : BitVec 1 := Scalar.cmpi .slt v1134 c0_i32_867
  let v1139 : BitVec 1 := Scalar.xori v1137 v1138
  let c0_i32_865 : BitVec 32 := 0#32
  let v1136 : BitVec 1 := Scalar.cmpi .ne v1135 c0_i32_865
  let v1140 : BitVec 1 := Scalar.andi v1139 v1136
  let v1141 : BitVec 32 := Scalar.addi v1135 v1134
  let v1142 : BitVec 32 := Scalar.select v1140 v1141 v1135
  let c1_i32_870 : BitVec 32 := 1#32
  let v1143 : BitVec 32 := Scalar.muli v1142 c1_i32_870
  let v1144 : BitVec 32 := Scalar.addi c0_i32_871 v1143
  v1144.toNat
def k0_dev42 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_920 : BitVec 32 := 10#32
  let v1205 : BitVec 32 := Scalar.addi v2 c10_i32_920
  let c1_i32_921 : BitVec 32 := 1#32
  let v1206 : BitVec 32 := Scalar.addi v1205 c1_i32_921
  let c32_i32_922 : BitVec 32 := 32#32
  let c0_i32_923 : BitVec 32 := 0#32
  let v1207 : BitVec 1 := Scalar.cmpi .eq c32_i32_922 c0_i32_923
  let c1_i32_924 : BitVec 32 := 1#32
  let v1208 : BitVec 32 := Scalar.select v1207 c1_i32_924 c32_i32_922
  let v1209 : BitVec 32 := Scalar.remsi v1206 v1208
  let c0_i32_926 : BitVec 32 := 0#32
  let v1211 : BitVec 1 := Scalar.cmpi .slt v1209 c0_i32_926
  let c0_i32_927 : BitVec 32 := 0#32
  let v1212 : BitVec 1 := Scalar.cmpi .slt v1208 c0_i32_927
  let v1213 : BitVec 1 := Scalar.xori v1211 v1212
  let c0_i32_925 : BitVec 32 := 0#32
  let v1210 : BitVec 1 := Scalar.cmpi .ne v1209 c0_i32_925
  let v1214 : BitVec 1 := Scalar.andi v1213 v1210
  let v1215 : BitVec 32 := Scalar.addi v1209 v1208
  let v1216 : BitVec 32 := Scalar.select v1214 v1215 v1209
  let c1_i32_930 : BitVec 32 := 1#32
  let v1217 : BitVec 32 := Scalar.muli v1216 c1_i32_930
  let v1218 : BitVec 32 := Scalar.addi c0_i32_931 v1217
  v1218.toNat
def k0_dev43 (d0 : Dev nD) : Nat :=
  let c0_i32_991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_980 : BitVec 32 := 11#32
  let v1279 : BitVec 32 := Scalar.addi v2 c11_i32_980
  let c1_i32_981 : BitVec 32 := 1#32
  let v1280 : BitVec 32 := Scalar.addi v1279 c1_i32_981
  let c32_i32_982 : BitVec 32 := 32#32
  let c0_i32_983 : BitVec 32 := 0#32
  let v1281 : BitVec 1 := Scalar.cmpi .eq c32_i32_982 c0_i32_983
  let c1_i32_984 : BitVec 32 := 1#32
  let v1282 : BitVec 32 := Scalar.select v1281 c1_i32_984 c32_i32_982
  let v1283 : BitVec 32 := Scalar.remsi v1280 v1282
  let c0_i32_986 : BitVec 32 := 0#32
  let v1285 : BitVec 1 := Scalar.cmpi .slt v1283 c0_i32_986
  let c0_i32_987 : BitVec 32 := 0#32
  let v1286 : BitVec 1 := Scalar.cmpi .slt v1282 c0_i32_987
  let v1287 : BitVec 1 := Scalar.xori v1285 v1286
  let c0_i32_985 : BitVec 32 := 0#32
  let v1284 : BitVec 1 := Scalar.cmpi .ne v1283 c0_i32_985
  let v1288 : BitVec 1 := Scalar.andi v1287 v1284
  let v1289 : BitVec 32 := Scalar.addi v1283 v1282
  let v1290 : BitVec 32 := Scalar.select v1288 v1289 v1283
  let c1_i32_990 : BitVec 32 := 1#32
  let v1291 : BitVec 32 := Scalar.muli v1290 c1_i32_990
  let v1292 : BitVec 32 := Scalar.addi c0_i32_991 v1291
  v1292.toNat
def k0_dev44 (d0 : Dev nD) : Nat :=
  let c0_i32_1051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1040 : BitVec 32 := 12#32
  let v1353 : BitVec 32 := Scalar.addi v2 c12_i32_1040
  let c1_i32_1041 : BitVec 32 := 1#32
  let v1354 : BitVec 32 := Scalar.addi v1353 c1_i32_1041
  let c32_i32_1042 : BitVec 32 := 32#32
  let c0_i32_1043 : BitVec 32 := 0#32
  let v1355 : BitVec 1 := Scalar.cmpi .eq c32_i32_1042 c0_i32_1043
  let c1_i32_1044 : BitVec 32 := 1#32
  let v1356 : BitVec 32 := Scalar.select v1355 c1_i32_1044 c32_i32_1042
  let v1357 : BitVec 32 := Scalar.remsi v1354 v1356
  let c0_i32_1046 : BitVec 32 := 0#32
  let v1359 : BitVec 1 := Scalar.cmpi .slt v1357 c0_i32_1046
  let c0_i32_1047 : BitVec 32 := 0#32
  let v1360 : BitVec 1 := Scalar.cmpi .slt v1356 c0_i32_1047
  let v1361 : BitVec 1 := Scalar.xori v1359 v1360
  let c0_i32_1045 : BitVec 32 := 0#32
  let v1358 : BitVec 1 := Scalar.cmpi .ne v1357 c0_i32_1045
  let v1362 : BitVec 1 := Scalar.andi v1361 v1358
  let v1363 : BitVec 32 := Scalar.addi v1357 v1356
  let v1364 : BitVec 32 := Scalar.select v1362 v1363 v1357
  let c1_i32_1050 : BitVec 32 := 1#32
  let v1365 : BitVec 32 := Scalar.muli v1364 c1_i32_1050
  let v1366 : BitVec 32 := Scalar.addi c0_i32_1051 v1365
  v1366.toNat
def k0_dev45 (d0 : Dev nD) : Nat :=
  let c0_i32_1111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1100 : BitVec 32 := 13#32
  let v1427 : BitVec 32 := Scalar.addi v2 c13_i32_1100
  let c1_i32_1101 : BitVec 32 := 1#32
  let v1428 : BitVec 32 := Scalar.addi v1427 c1_i32_1101
  let c32_i32_1102 : BitVec 32 := 32#32
  let c0_i32_1103 : BitVec 32 := 0#32
  let v1429 : BitVec 1 := Scalar.cmpi .eq c32_i32_1102 c0_i32_1103
  let c1_i32_1104 : BitVec 32 := 1#32
  let v1430 : BitVec 32 := Scalar.select v1429 c1_i32_1104 c32_i32_1102
  let v1431 : BitVec 32 := Scalar.remsi v1428 v1430
  let c0_i32_1106 : BitVec 32 := 0#32
  let v1433 : BitVec 1 := Scalar.cmpi .slt v1431 c0_i32_1106
  let c0_i32_1107 : BitVec 32 := 0#32
  let v1434 : BitVec 1 := Scalar.cmpi .slt v1430 c0_i32_1107
  let v1435 : BitVec 1 := Scalar.xori v1433 v1434
  let c0_i32_1105 : BitVec 32 := 0#32
  let v1432 : BitVec 1 := Scalar.cmpi .ne v1431 c0_i32_1105
  let v1436 : BitVec 1 := Scalar.andi v1435 v1432
  let v1437 : BitVec 32 := Scalar.addi v1431 v1430
  let v1438 : BitVec 32 := Scalar.select v1436 v1437 v1431
  let c1_i32_1110 : BitVec 32 := 1#32
  let v1439 : BitVec 32 := Scalar.muli v1438 c1_i32_1110
  let v1440 : BitVec 32 := Scalar.addi c0_i32_1111 v1439
  v1440.toNat
def k0_dev46 (d0 : Dev nD) : Nat :=
  let c0_i32_1171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1160 : BitVec 32 := 14#32
  let v1501 : BitVec 32 := Scalar.addi v2 c14_i32_1160
  let c1_i32_1161 : BitVec 32 := 1#32
  let v1502 : BitVec 32 := Scalar.addi v1501 c1_i32_1161
  let c32_i32_1162 : BitVec 32 := 32#32
  let c0_i32_1163 : BitVec 32 := 0#32
  let v1503 : BitVec 1 := Scalar.cmpi .eq c32_i32_1162 c0_i32_1163
  let c1_i32_1164 : BitVec 32 := 1#32
  let v1504 : BitVec 32 := Scalar.select v1503 c1_i32_1164 c32_i32_1162
  let v1505 : BitVec 32 := Scalar.remsi v1502 v1504
  let c0_i32_1166 : BitVec 32 := 0#32
  let v1507 : BitVec 1 := Scalar.cmpi .slt v1505 c0_i32_1166
  let c0_i32_1167 : BitVec 32 := 0#32
  let v1508 : BitVec 1 := Scalar.cmpi .slt v1504 c0_i32_1167
  let v1509 : BitVec 1 := Scalar.xori v1507 v1508
  let c0_i32_1165 : BitVec 32 := 0#32
  let v1506 : BitVec 1 := Scalar.cmpi .ne v1505 c0_i32_1165
  let v1510 : BitVec 1 := Scalar.andi v1509 v1506
  let v1511 : BitVec 32 := Scalar.addi v1505 v1504
  let v1512 : BitVec 32 := Scalar.select v1510 v1511 v1505
  let c1_i32_1170 : BitVec 32 := 1#32
  let v1513 : BitVec 32 := Scalar.muli v1512 c1_i32_1170
  let v1514 : BitVec 32 := Scalar.addi c0_i32_1171 v1513
  v1514.toNat
def k0_dev47 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1220 : BitVec 32 := 15#32
  let v1575 : BitVec 32 := Scalar.addi v2 c15_i32_1220
  let c1_i32_1221 : BitVec 32 := 1#32
  let v1576 : BitVec 32 := Scalar.addi v1575 c1_i32_1221
  let c32_i32_1222 : BitVec 32 := 32#32
  let c0_i32_1223 : BitVec 32 := 0#32
  let v1577 : BitVec 1 := Scalar.cmpi .eq c32_i32_1222 c0_i32_1223
  let c1_i32_1224 : BitVec 32 := 1#32
  let v1578 : BitVec 32 := Scalar.select v1577 c1_i32_1224 c32_i32_1222
  let v1579 : BitVec 32 := Scalar.remsi v1576 v1578
  let c0_i32_1226 : BitVec 32 := 0#32
  let v1581 : BitVec 1 := Scalar.cmpi .slt v1579 c0_i32_1226
  let c0_i32_1227 : BitVec 32 := 0#32
  let v1582 : BitVec 1 := Scalar.cmpi .slt v1578 c0_i32_1227
  let v1583 : BitVec 1 := Scalar.xori v1581 v1582
  let c0_i32_1225 : BitVec 32 := 0#32
  let v1580 : BitVec 1 := Scalar.cmpi .ne v1579 c0_i32_1225
  let v1584 : BitVec 1 := Scalar.andi v1583 v1580
  let v1585 : BitVec 32 := Scalar.addi v1579 v1578
  let v1586 : BitVec 32 := Scalar.select v1584 v1585 v1579
  let c1_i32_1230 : BitVec 32 := 1#32
  let v1587 : BitVec 32 := Scalar.muli v1586 c1_i32_1230
  let v1588 : BitVec 32 := Scalar.addi c0_i32_1231 v1587
  v1588.toNat
def k0_dev48 (d0 : Dev nD) : Nat :=
  let c0_i32_1291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1280 : BitVec 32 := 16#32
  let v1649 : BitVec 32 := Scalar.addi v2 c16_i32_1280
  let c1_i32_1281 : BitVec 32 := 1#32
  let v1650 : BitVec 32 := Scalar.addi v1649 c1_i32_1281
  let c32_i32_1282 : BitVec 32 := 32#32
  let c0_i32_1283 : BitVec 32 := 0#32
  let v1651 : BitVec 1 := Scalar.cmpi .eq c32_i32_1282 c0_i32_1283
  let c1_i32_1284 : BitVec 32 := 1#32
  let v1652 : BitVec 32 := Scalar.select v1651 c1_i32_1284 c32_i32_1282
  let v1653 : BitVec 32 := Scalar.remsi v1650 v1652
  let c0_i32_1286 : BitVec 32 := 0#32
  let v1655 : BitVec 1 := Scalar.cmpi .slt v1653 c0_i32_1286
  let c0_i32_1287 : BitVec 32 := 0#32
  let v1656 : BitVec 1 := Scalar.cmpi .slt v1652 c0_i32_1287
  let v1657 : BitVec 1 := Scalar.xori v1655 v1656
  let c0_i32_1285 : BitVec 32 := 0#32
  let v1654 : BitVec 1 := Scalar.cmpi .ne v1653 c0_i32_1285
  let v1658 : BitVec 1 := Scalar.andi v1657 v1654
  let v1659 : BitVec 32 := Scalar.addi v1653 v1652
  let v1660 : BitVec 32 := Scalar.select v1658 v1659 v1653
  let c1_i32_1290 : BitVec 32 := 1#32
  let v1661 : BitVec 32 := Scalar.muli v1660 c1_i32_1290
  let v1662 : BitVec 32 := Scalar.addi c0_i32_1291 v1661
  v1662.toNat
def k0_dev49 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1340 : BitVec 32 := 17#32
  let v1723 : BitVec 32 := Scalar.addi v2 c17_i32_1340
  let c1_i32_1341 : BitVec 32 := 1#32
  let v1724 : BitVec 32 := Scalar.addi v1723 c1_i32_1341
  let c32_i32_1342 : BitVec 32 := 32#32
  let c0_i32_1343 : BitVec 32 := 0#32
  let v1725 : BitVec 1 := Scalar.cmpi .eq c32_i32_1342 c0_i32_1343
  let c1_i32_1344 : BitVec 32 := 1#32
  let v1726 : BitVec 32 := Scalar.select v1725 c1_i32_1344 c32_i32_1342
  let v1727 : BitVec 32 := Scalar.remsi v1724 v1726
  let c0_i32_1346 : BitVec 32 := 0#32
  let v1729 : BitVec 1 := Scalar.cmpi .slt v1727 c0_i32_1346
  let c0_i32_1347 : BitVec 32 := 0#32
  let v1730 : BitVec 1 := Scalar.cmpi .slt v1726 c0_i32_1347
  let v1731 : BitVec 1 := Scalar.xori v1729 v1730
  let c0_i32_1345 : BitVec 32 := 0#32
  let v1728 : BitVec 1 := Scalar.cmpi .ne v1727 c0_i32_1345
  let v1732 : BitVec 1 := Scalar.andi v1731 v1728
  let v1733 : BitVec 32 := Scalar.addi v1727 v1726
  let v1734 : BitVec 32 := Scalar.select v1732 v1733 v1727
  let c1_i32_1350 : BitVec 32 := 1#32
  let v1735 : BitVec 32 := Scalar.muli v1734 c1_i32_1350
  let v1736 : BitVec 32 := Scalar.addi c0_i32_1351 v1735
  v1736.toNat
def k0_dev50 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1400 : BitVec 32 := 18#32
  let v1797 : BitVec 32 := Scalar.addi v2 c18_i32_1400
  let c1_i32_1401 : BitVec 32 := 1#32
  let v1798 : BitVec 32 := Scalar.addi v1797 c1_i32_1401
  let c32_i32_1402 : BitVec 32 := 32#32
  let c0_i32_1403 : BitVec 32 := 0#32
  let v1799 : BitVec 1 := Scalar.cmpi .eq c32_i32_1402 c0_i32_1403
  let c1_i32_1404 : BitVec 32 := 1#32
  let v1800 : BitVec 32 := Scalar.select v1799 c1_i32_1404 c32_i32_1402
  let v1801 : BitVec 32 := Scalar.remsi v1798 v1800
  let c0_i32_1406 : BitVec 32 := 0#32
  let v1803 : BitVec 1 := Scalar.cmpi .slt v1801 c0_i32_1406
  let c0_i32_1407 : BitVec 32 := 0#32
  let v1804 : BitVec 1 := Scalar.cmpi .slt v1800 c0_i32_1407
  let v1805 : BitVec 1 := Scalar.xori v1803 v1804
  let c0_i32_1405 : BitVec 32 := 0#32
  let v1802 : BitVec 1 := Scalar.cmpi .ne v1801 c0_i32_1405
  let v1806 : BitVec 1 := Scalar.andi v1805 v1802
  let v1807 : BitVec 32 := Scalar.addi v1801 v1800
  let v1808 : BitVec 32 := Scalar.select v1806 v1807 v1801
  let c1_i32_1410 : BitVec 32 := 1#32
  let v1809 : BitVec 32 := Scalar.muli v1808 c1_i32_1410
  let v1810 : BitVec 32 := Scalar.addi c0_i32_1411 v1809
  v1810.toNat
def k0_dev51 (d0 : Dev nD) : Nat :=
  let c0_i32_1471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1460 : BitVec 32 := 19#32
  let v1871 : BitVec 32 := Scalar.addi v2 c19_i32_1460
  let c1_i32_1461 : BitVec 32 := 1#32
  let v1872 : BitVec 32 := Scalar.addi v1871 c1_i32_1461
  let c32_i32_1462 : BitVec 32 := 32#32
  let c0_i32_1463 : BitVec 32 := 0#32
  let v1873 : BitVec 1 := Scalar.cmpi .eq c32_i32_1462 c0_i32_1463
  let c1_i32_1464 : BitVec 32 := 1#32
  let v1874 : BitVec 32 := Scalar.select v1873 c1_i32_1464 c32_i32_1462
  let v1875 : BitVec 32 := Scalar.remsi v1872 v1874
  let c0_i32_1466 : BitVec 32 := 0#32
  let v1877 : BitVec 1 := Scalar.cmpi .slt v1875 c0_i32_1466
  let c0_i32_1467 : BitVec 32 := 0#32
  let v1878 : BitVec 1 := Scalar.cmpi .slt v1874 c0_i32_1467
  let v1879 : BitVec 1 := Scalar.xori v1877 v1878
  let c0_i32_1465 : BitVec 32 := 0#32
  let v1876 : BitVec 1 := Scalar.cmpi .ne v1875 c0_i32_1465
  let v1880 : BitVec 1 := Scalar.andi v1879 v1876
  let v1881 : BitVec 32 := Scalar.addi v1875 v1874
  let v1882 : BitVec 32 := Scalar.select v1880 v1881 v1875
  let c1_i32_1470 : BitVec 32 := 1#32
  let v1883 : BitVec 32 := Scalar.muli v1882 c1_i32_1470
  let v1884 : BitVec 32 := Scalar.addi c0_i32_1471 v1883
  v1884.toNat
def k0_dev52 (d0 : Dev nD) : Nat :=
  let c0_i32_1531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1520 : BitVec 32 := 20#32
  let v1945 : BitVec 32 := Scalar.addi v2 c20_i32_1520
  let c1_i32_1521 : BitVec 32 := 1#32
  let v1946 : BitVec 32 := Scalar.addi v1945 c1_i32_1521
  let c32_i32_1522 : BitVec 32 := 32#32
  let c0_i32_1523 : BitVec 32 := 0#32
  let v1947 : BitVec 1 := Scalar.cmpi .eq c32_i32_1522 c0_i32_1523
  let c1_i32_1524 : BitVec 32 := 1#32
  let v1948 : BitVec 32 := Scalar.select v1947 c1_i32_1524 c32_i32_1522
  let v1949 : BitVec 32 := Scalar.remsi v1946 v1948
  let c0_i32_1526 : BitVec 32 := 0#32
  let v1951 : BitVec 1 := Scalar.cmpi .slt v1949 c0_i32_1526
  let c0_i32_1527 : BitVec 32 := 0#32
  let v1952 : BitVec 1 := Scalar.cmpi .slt v1948 c0_i32_1527
  let v1953 : BitVec 1 := Scalar.xori v1951 v1952
  let c0_i32_1525 : BitVec 32 := 0#32
  let v1950 : BitVec 1 := Scalar.cmpi .ne v1949 c0_i32_1525
  let v1954 : BitVec 1 := Scalar.andi v1953 v1950
  let v1955 : BitVec 32 := Scalar.addi v1949 v1948
  let v1956 : BitVec 32 := Scalar.select v1954 v1955 v1949
  let c1_i32_1530 : BitVec 32 := 1#32
  let v1957 : BitVec 32 := Scalar.muli v1956 c1_i32_1530
  let v1958 : BitVec 32 := Scalar.addi c0_i32_1531 v1957
  v1958.toNat
def k0_dev53 (d0 : Dev nD) : Nat :=
  let c0_i32_1591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1580 : BitVec 32 := 21#32
  let v2019 : BitVec 32 := Scalar.addi v2 c21_i32_1580
  let c1_i32_1581 : BitVec 32 := 1#32
  let v2020 : BitVec 32 := Scalar.addi v2019 c1_i32_1581
  let c32_i32_1582 : BitVec 32 := 32#32
  let c0_i32_1583 : BitVec 32 := 0#32
  let v2021 : BitVec 1 := Scalar.cmpi .eq c32_i32_1582 c0_i32_1583
  let c1_i32_1584 : BitVec 32 := 1#32
  let v2022 : BitVec 32 := Scalar.select v2021 c1_i32_1584 c32_i32_1582
  let v2023 : BitVec 32 := Scalar.remsi v2020 v2022
  let c0_i32_1586 : BitVec 32 := 0#32
  let v2025 : BitVec 1 := Scalar.cmpi .slt v2023 c0_i32_1586
  let c0_i32_1587 : BitVec 32 := 0#32
  let v2026 : BitVec 1 := Scalar.cmpi .slt v2022 c0_i32_1587
  let v2027 : BitVec 1 := Scalar.xori v2025 v2026
  let c0_i32_1585 : BitVec 32 := 0#32
  let v2024 : BitVec 1 := Scalar.cmpi .ne v2023 c0_i32_1585
  let v2028 : BitVec 1 := Scalar.andi v2027 v2024
  let v2029 : BitVec 32 := Scalar.addi v2023 v2022
  let v2030 : BitVec 32 := Scalar.select v2028 v2029 v2023
  let c1_i32_1590 : BitVec 32 := 1#32
  let v2031 : BitVec 32 := Scalar.muli v2030 c1_i32_1590
  let v2032 : BitVec 32 := Scalar.addi c0_i32_1591 v2031
  v2032.toNat
def k0_dev54 (d0 : Dev nD) : Nat :=
  let c0_i32_1651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1640 : BitVec 32 := 22#32
  let v2093 : BitVec 32 := Scalar.addi v2 c22_i32_1640
  let c1_i32_1641 : BitVec 32 := 1#32
  let v2094 : BitVec 32 := Scalar.addi v2093 c1_i32_1641
  let c32_i32_1642 : BitVec 32 := 32#32
  let c0_i32_1643 : BitVec 32 := 0#32
  let v2095 : BitVec 1 := Scalar.cmpi .eq c32_i32_1642 c0_i32_1643
  let c1_i32_1644 : BitVec 32 := 1#32
  let v2096 : BitVec 32 := Scalar.select v2095 c1_i32_1644 c32_i32_1642
  let v2097 : BitVec 32 := Scalar.remsi v2094 v2096
  let c0_i32_1646 : BitVec 32 := 0#32
  let v2099 : BitVec 1 := Scalar.cmpi .slt v2097 c0_i32_1646
  let c0_i32_1647 : BitVec 32 := 0#32
  let v2100 : BitVec 1 := Scalar.cmpi .slt v2096 c0_i32_1647
  let v2101 : BitVec 1 := Scalar.xori v2099 v2100
  let c0_i32_1645 : BitVec 32 := 0#32
  let v2098 : BitVec 1 := Scalar.cmpi .ne v2097 c0_i32_1645
  let v2102 : BitVec 1 := Scalar.andi v2101 v2098
  let v2103 : BitVec 32 := Scalar.addi v2097 v2096
  let v2104 : BitVec 32 := Scalar.select v2102 v2103 v2097
  let c1_i32_1650 : BitVec 32 := 1#32
  let v2105 : BitVec 32 := Scalar.muli v2104 c1_i32_1650
  let v2106 : BitVec 32 := Scalar.addi c0_i32_1651 v2105
  v2106.toNat
def k0_dev55 (d0 : Dev nD) : Nat :=
  let c0_i32_1711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1700 : BitVec 32 := 23#32
  let v2167 : BitVec 32 := Scalar.addi v2 c23_i32_1700
  let c1_i32_1701 : BitVec 32 := 1#32
  let v2168 : BitVec 32 := Scalar.addi v2167 c1_i32_1701
  let c32_i32_1702 : BitVec 32 := 32#32
  let c0_i32_1703 : BitVec 32 := 0#32
  let v2169 : BitVec 1 := Scalar.cmpi .eq c32_i32_1702 c0_i32_1703
  let c1_i32_1704 : BitVec 32 := 1#32
  let v2170 : BitVec 32 := Scalar.select v2169 c1_i32_1704 c32_i32_1702
  let v2171 : BitVec 32 := Scalar.remsi v2168 v2170
  let c0_i32_1706 : BitVec 32 := 0#32
  let v2173 : BitVec 1 := Scalar.cmpi .slt v2171 c0_i32_1706
  let c0_i32_1707 : BitVec 32 := 0#32
  let v2174 : BitVec 1 := Scalar.cmpi .slt v2170 c0_i32_1707
  let v2175 : BitVec 1 := Scalar.xori v2173 v2174
  let c0_i32_1705 : BitVec 32 := 0#32
  let v2172 : BitVec 1 := Scalar.cmpi .ne v2171 c0_i32_1705
  let v2176 : BitVec 1 := Scalar.andi v2175 v2172
  let v2177 : BitVec 32 := Scalar.addi v2171 v2170
  let v2178 : BitVec 32 := Scalar.select v2176 v2177 v2171
  let c1_i32_1710 : BitVec 32 := 1#32
  let v2179 : BitVec 32 := Scalar.muli v2178 c1_i32_1710
  let v2180 : BitVec 32 := Scalar.addi c0_i32_1711 v2179
  v2180.toNat
def k0_dev56 (d0 : Dev nD) : Nat :=
  let c0_i32_1771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1760 : BitVec 32 := 24#32
  let v2241 : BitVec 32 := Scalar.addi v2 c24_i32_1760
  let c1_i32_1761 : BitVec 32 := 1#32
  let v2242 : BitVec 32 := Scalar.addi v2241 c1_i32_1761
  let c32_i32_1762 : BitVec 32 := 32#32
  let c0_i32_1763 : BitVec 32 := 0#32
  let v2243 : BitVec 1 := Scalar.cmpi .eq c32_i32_1762 c0_i32_1763
  let c1_i32_1764 : BitVec 32 := 1#32
  let v2244 : BitVec 32 := Scalar.select v2243 c1_i32_1764 c32_i32_1762
  let v2245 : BitVec 32 := Scalar.remsi v2242 v2244
  let c0_i32_1766 : BitVec 32 := 0#32
  let v2247 : BitVec 1 := Scalar.cmpi .slt v2245 c0_i32_1766
  let c0_i32_1767 : BitVec 32 := 0#32
  let v2248 : BitVec 1 := Scalar.cmpi .slt v2244 c0_i32_1767
  let v2249 : BitVec 1 := Scalar.xori v2247 v2248
  let c0_i32_1765 : BitVec 32 := 0#32
  let v2246 : BitVec 1 := Scalar.cmpi .ne v2245 c0_i32_1765
  let v2250 : BitVec 1 := Scalar.andi v2249 v2246
  let v2251 : BitVec 32 := Scalar.addi v2245 v2244
  let v2252 : BitVec 32 := Scalar.select v2250 v2251 v2245
  let c1_i32_1770 : BitVec 32 := 1#32
  let v2253 : BitVec 32 := Scalar.muli v2252 c1_i32_1770
  let v2254 : BitVec 32 := Scalar.addi c0_i32_1771 v2253
  v2254.toNat
def k0_dev57 (d0 : Dev nD) : Nat :=
  let c0_i32_1831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1820 : BitVec 32 := 25#32
  let v2315 : BitVec 32 := Scalar.addi v2 c25_i32_1820
  let c1_i32_1821 : BitVec 32 := 1#32
  let v2316 : BitVec 32 := Scalar.addi v2315 c1_i32_1821
  let c32_i32_1822 : BitVec 32 := 32#32
  let c0_i32_1823 : BitVec 32 := 0#32
  let v2317 : BitVec 1 := Scalar.cmpi .eq c32_i32_1822 c0_i32_1823
  let c1_i32_1824 : BitVec 32 := 1#32
  let v2318 : BitVec 32 := Scalar.select v2317 c1_i32_1824 c32_i32_1822
  let v2319 : BitVec 32 := Scalar.remsi v2316 v2318
  let c0_i32_1826 : BitVec 32 := 0#32
  let v2321 : BitVec 1 := Scalar.cmpi .slt v2319 c0_i32_1826
  let c0_i32_1827 : BitVec 32 := 0#32
  let v2322 : BitVec 1 := Scalar.cmpi .slt v2318 c0_i32_1827
  let v2323 : BitVec 1 := Scalar.xori v2321 v2322
  let c0_i32_1825 : BitVec 32 := 0#32
  let v2320 : BitVec 1 := Scalar.cmpi .ne v2319 c0_i32_1825
  let v2324 : BitVec 1 := Scalar.andi v2323 v2320
  let v2325 : BitVec 32 := Scalar.addi v2319 v2318
  let v2326 : BitVec 32 := Scalar.select v2324 v2325 v2319
  let c1_i32_1830 : BitVec 32 := 1#32
  let v2327 : BitVec 32 := Scalar.muli v2326 c1_i32_1830
  let v2328 : BitVec 32 := Scalar.addi c0_i32_1831 v2327
  v2328.toNat
def k0_dev58 (d0 : Dev nD) : Nat :=
  let c0_i32_1891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1880 : BitVec 32 := 26#32
  let v2389 : BitVec 32 := Scalar.addi v2 c26_i32_1880
  let c1_i32_1881 : BitVec 32 := 1#32
  let v2390 : BitVec 32 := Scalar.addi v2389 c1_i32_1881
  let c32_i32_1882 : BitVec 32 := 32#32
  let c0_i32_1883 : BitVec 32 := 0#32
  let v2391 : BitVec 1 := Scalar.cmpi .eq c32_i32_1882 c0_i32_1883
  let c1_i32_1884 : BitVec 32 := 1#32
  let v2392 : BitVec 32 := Scalar.select v2391 c1_i32_1884 c32_i32_1882
  let v2393 : BitVec 32 := Scalar.remsi v2390 v2392
  let c0_i32_1886 : BitVec 32 := 0#32
  let v2395 : BitVec 1 := Scalar.cmpi .slt v2393 c0_i32_1886
  let c0_i32_1887 : BitVec 32 := 0#32
  let v2396 : BitVec 1 := Scalar.cmpi .slt v2392 c0_i32_1887
  let v2397 : BitVec 1 := Scalar.xori v2395 v2396
  let c0_i32_1885 : BitVec 32 := 0#32
  let v2394 : BitVec 1 := Scalar.cmpi .ne v2393 c0_i32_1885
  let v2398 : BitVec 1 := Scalar.andi v2397 v2394
  let v2399 : BitVec 32 := Scalar.addi v2393 v2392
  let v2400 : BitVec 32 := Scalar.select v2398 v2399 v2393
  let c1_i32_1890 : BitVec 32 := 1#32
  let v2401 : BitVec 32 := Scalar.muli v2400 c1_i32_1890
  let v2402 : BitVec 32 := Scalar.addi c0_i32_1891 v2401
  v2402.toNat
def k0_dev59 (d0 : Dev nD) : Nat :=
  let c0_i32_1951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1940 : BitVec 32 := 27#32
  let v2463 : BitVec 32 := Scalar.addi v2 c27_i32_1940
  let c1_i32_1941 : BitVec 32 := 1#32
  let v2464 : BitVec 32 := Scalar.addi v2463 c1_i32_1941
  let c32_i32_1942 : BitVec 32 := 32#32
  let c0_i32_1943 : BitVec 32 := 0#32
  let v2465 : BitVec 1 := Scalar.cmpi .eq c32_i32_1942 c0_i32_1943
  let c1_i32_1944 : BitVec 32 := 1#32
  let v2466 : BitVec 32 := Scalar.select v2465 c1_i32_1944 c32_i32_1942
  let v2467 : BitVec 32 := Scalar.remsi v2464 v2466
  let c0_i32_1946 : BitVec 32 := 0#32
  let v2469 : BitVec 1 := Scalar.cmpi .slt v2467 c0_i32_1946
  let c0_i32_1947 : BitVec 32 := 0#32
  let v2470 : BitVec 1 := Scalar.cmpi .slt v2466 c0_i32_1947
  let v2471 : BitVec 1 := Scalar.xori v2469 v2470
  let c0_i32_1945 : BitVec 32 := 0#32
  let v2468 : BitVec 1 := Scalar.cmpi .ne v2467 c0_i32_1945
  let v2472 : BitVec 1 := Scalar.andi v2471 v2468
  let v2473 : BitVec 32 := Scalar.addi v2467 v2466
  let v2474 : BitVec 32 := Scalar.select v2472 v2473 v2467
  let c1_i32_1950 : BitVec 32 := 1#32
  let v2475 : BitVec 32 := Scalar.muli v2474 c1_i32_1950
  let v2476 : BitVec 32 := Scalar.addi c0_i32_1951 v2475
  v2476.toNat
def k0_dev60 (d0 : Dev nD) : Nat :=
  let c0_i32_2011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2000 : BitVec 32 := 28#32
  let v2537 : BitVec 32 := Scalar.addi v2 c28_i32_2000
  let c1_i32_2001 : BitVec 32 := 1#32
  let v2538 : BitVec 32 := Scalar.addi v2537 c1_i32_2001
  let c32_i32_2002 : BitVec 32 := 32#32
  let c0_i32_2003 : BitVec 32 := 0#32
  let v2539 : BitVec 1 := Scalar.cmpi .eq c32_i32_2002 c0_i32_2003
  let c1_i32_2004 : BitVec 32 := 1#32
  let v2540 : BitVec 32 := Scalar.select v2539 c1_i32_2004 c32_i32_2002
  let v2541 : BitVec 32 := Scalar.remsi v2538 v2540
  let c0_i32_2006 : BitVec 32 := 0#32
  let v2543 : BitVec 1 := Scalar.cmpi .slt v2541 c0_i32_2006
  let c0_i32_2007 : BitVec 32 := 0#32
  let v2544 : BitVec 1 := Scalar.cmpi .slt v2540 c0_i32_2007
  let v2545 : BitVec 1 := Scalar.xori v2543 v2544
  let c0_i32_2005 : BitVec 32 := 0#32
  let v2542 : BitVec 1 := Scalar.cmpi .ne v2541 c0_i32_2005
  let v2546 : BitVec 1 := Scalar.andi v2545 v2542
  let v2547 : BitVec 32 := Scalar.addi v2541 v2540
  let v2548 : BitVec 32 := Scalar.select v2546 v2547 v2541
  let c1_i32_2010 : BitVec 32 := 1#32
  let v2549 : BitVec 32 := Scalar.muli v2548 c1_i32_2010
  let v2550 : BitVec 32 := Scalar.addi c0_i32_2011 v2549
  v2550.toNat
def k0_dev61 (d0 : Dev nD) : Nat :=
  let c0_i32_2071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2060 : BitVec 32 := 29#32
  let v2611 : BitVec 32 := Scalar.addi v2 c29_i32_2060
  let c1_i32_2061 : BitVec 32 := 1#32
  let v2612 : BitVec 32 := Scalar.addi v2611 c1_i32_2061
  let c32_i32_2062 : BitVec 32 := 32#32
  let c0_i32_2063 : BitVec 32 := 0#32
  let v2613 : BitVec 1 := Scalar.cmpi .eq c32_i32_2062 c0_i32_2063
  let c1_i32_2064 : BitVec 32 := 1#32
  let v2614 : BitVec 32 := Scalar.select v2613 c1_i32_2064 c32_i32_2062
  let v2615 : BitVec 32 := Scalar.remsi v2612 v2614
  let c0_i32_2066 : BitVec 32 := 0#32
  let v2617 : BitVec 1 := Scalar.cmpi .slt v2615 c0_i32_2066
  let c0_i32_2067 : BitVec 32 := 0#32
  let v2618 : BitVec 1 := Scalar.cmpi .slt v2614 c0_i32_2067
  let v2619 : BitVec 1 := Scalar.xori v2617 v2618
  let c0_i32_2065 : BitVec 32 := 0#32
  let v2616 : BitVec 1 := Scalar.cmpi .ne v2615 c0_i32_2065
  let v2620 : BitVec 1 := Scalar.andi v2619 v2616
  let v2621 : BitVec 32 := Scalar.addi v2615 v2614
  let v2622 : BitVec 32 := Scalar.select v2620 v2621 v2615
  let c1_i32_2070 : BitVec 32 := 1#32
  let v2623 : BitVec 32 := Scalar.muli v2622 c1_i32_2070
  let v2624 : BitVec 32 := Scalar.addi c0_i32_2071 v2623
  v2624.toNat
def k0_dev62 (d0 : Dev nD) : Nat :=
  let c0_i32_2131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2120 : BitVec 32 := 30#32
  let v2685 : BitVec 32 := Scalar.addi v2 c30_i32_2120
  let c1_i32_2121 : BitVec 32 := 1#32
  let v2686 : BitVec 32 := Scalar.addi v2685 c1_i32_2121
  let c32_i32_2122 : BitVec 32 := 32#32
  let c0_i32_2123 : BitVec 32 := 0#32
  let v2687 : BitVec 1 := Scalar.cmpi .eq c32_i32_2122 c0_i32_2123
  let c1_i32_2124 : BitVec 32 := 1#32
  let v2688 : BitVec 32 := Scalar.select v2687 c1_i32_2124 c32_i32_2122
  let v2689 : BitVec 32 := Scalar.remsi v2686 v2688
  let c0_i32_2126 : BitVec 32 := 0#32
  let v2691 : BitVec 1 := Scalar.cmpi .slt v2689 c0_i32_2126
  let c0_i32_2127 : BitVec 32 := 0#32
  let v2692 : BitVec 1 := Scalar.cmpi .slt v2688 c0_i32_2127
  let v2693 : BitVec 1 := Scalar.xori v2691 v2692
  let c0_i32_2125 : BitVec 32 := 0#32
  let v2690 : BitVec 1 := Scalar.cmpi .ne v2689 c0_i32_2125
  let v2694 : BitVec 1 := Scalar.andi v2693 v2690
  let v2695 : BitVec 32 := Scalar.addi v2689 v2688
  let v2696 : BitVec 32 := Scalar.select v2694 v2695 v2689
  let c1_i32_2130 : BitVec 32 := 1#32
  let v2697 : BitVec 32 := Scalar.muli v2696 c1_i32_2130
  let v2698 : BitVec 32 := Scalar.addi c0_i32_2131 v2697
  v2698.toNat
def k0_off4 (d0 : Dev nD) (c1_i32_2183 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2755 : BitVec 32 := Scalar.subi v2 c1_i32_2183
  let c32_i32_2184 : BitVec 32 := 32#32
  let c0_i32_2185 : BitVec 32 := 0#32
  let v2756 : BitVec 1 := Scalar.cmpi .eq c32_i32_2184 c0_i32_2185
  let c1_i32_2186 : BitVec 32 := 1#32
  let v2757 : BitVec 32 := Scalar.select v2756 c1_i32_2186 c32_i32_2184
  let v2758 : BitVec 32 := Scalar.remsi v2755 v2757
  let c0_i32_2188 : BitVec 32 := 0#32
  let v2760 : BitVec 1 := Scalar.cmpi .slt v2758 c0_i32_2188
  let c0_i32_2189 : BitVec 32 := 0#32
  let v2761 : BitVec 1 := Scalar.cmpi .slt v2757 c0_i32_2189
  let v2762 : BitVec 1 := Scalar.xori v2760 v2761
  let c0_i32_2187 : BitVec 32 := 0#32
  let v2759 : BitVec 1 := Scalar.cmpi .ne v2758 c0_i32_2187
  let v2763 : BitVec 1 := Scalar.andi v2762 v2759
  let v2764 : BitVec 32 := Scalar.addi v2758 v2757
  let v2765 : BitVec 32 := Scalar.select v2763 v2764 v2758
  ![v2765.toNat]
def k0_off5 (d0 : Dev nD) (c1_i32_2183 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2755 : BitVec 32 := Scalar.subi v2 c1_i32_2183
  let c32_i32_2184 : BitVec 32 := 32#32
  let c0_i32_2185 : BitVec 32 := 0#32
  let v2756 : BitVec 1 := Scalar.cmpi .eq c32_i32_2184 c0_i32_2185
  let c1_i32_2186 : BitVec 32 := 1#32
  let v2757 : BitVec 32 := Scalar.select v2756 c1_i32_2186 c32_i32_2184
  let v2758 : BitVec 32 := Scalar.remsi v2755 v2757
  let c0_i32_2188 : BitVec 32 := 0#32
  let v2760 : BitVec 1 := Scalar.cmpi .slt v2758 c0_i32_2188
  let c0_i32_2189 : BitVec 32 := 0#32
  let v2761 : BitVec 1 := Scalar.cmpi .slt v2757 c0_i32_2189
  let v2762 : BitVec 1 := Scalar.xori v2760 v2761
  let c0_i32_2187 : BitVec 32 := 0#32
  let v2759 : BitVec 1 := Scalar.cmpi .ne v2758 c0_i32_2187
  let v2763 : BitVec 1 := Scalar.andi v2762 v2759
  let v2764 : BitVec 32 := Scalar.addi v2758 v2757
  let v2765 : BitVec 32 := Scalar.select v2763 v2764 v2758
  let c0_i32_2194 : BitVec 32 := 0#32
  let c0_i32_2195 : BitVec 32 := 0#32
  ![v2765.toNat, 0, 0]
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== SiluIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Prog.lean ====
/-
# The kernel's body as a short structured program

The printed body is one straight line of about three hundred memory operations.  This module writes the same line as a
program built from a few named pieces: a loop of barrier signals, the barrier wait, the first load, a loop of steps, the
last step, a loop of receive waits, and the final activation.  `body_eq` says that the printed body IS this program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.AllToAll

open Cert.KernelIdeal Cert.KernelIdeal.Gen
open Idealize.ShloMosaic Idealize.SL.Sem

variable {F : FTy → Type} [FloatOps F]

/-! ## The buffers and semaphores -/

/-- A program of the kernel's body. -/
abbrev BProg (F : FTy → Type) [FloatOps F] : Type 1 := Prog (TpuEff nD τ sig (Elt F) Λ₀ .tc) PUnit

/-- The staged block of x. -/
abbrev xM : Memref sig .tc .vmem S128x4096 .bf16 := Memref.whole cc0_stg0_0
/-- The weight matrix, whole, in HBM. -/
abbrev wM : Memref sig .tc .hbm S4096x8192 .f32 := Memref.whole main_arg1
/-- The staged result block. -/
abbrev oM : Memref sig .tc .vmem S4096x256 .f32 := Memref.whole cc0_stg1_0
/-- The two slots of loaded weight columns. -/
abbrev wbM : Memref sig .tc .vmem S2x4096x256 .f32 := Memref.whole cc0_scratch0
/-- The two slots of products to send. -/
abbrev ysM : Memref sig .tc .vmem S2x128x256 .bf16 := Memref.whole cc0_scratch1
/-- The landing buffer: one row of blocks per source device. -/
abbrev cmM : Memref sig .tc .vmem S32x128x256 .bf16 := Memref.whole cc0_scratch2

/-- The barrier semaphore. -/
abbrev barS : Sem sig := (SemArray.scalar (sig.barrier 0 rfl) : Sems sig S_).sem

theorem inb_sem (σ : Fin 2) : ∀ a, (![σ.val] : Fin 1 → Nat) a + S1.size a ≤ S2.size a := by revert σ; decide
theorem inb_wb (σ : Fin 2) : ∀ a, (![σ.val, 0, 0] : Fin 3 → Nat) a + S1x4096x256.size a ≤ S2x4096x256.size a := by
  revert σ; decide
theorem inb_ys (σ : Fin 2) : ∀ a, (![σ.val, 0, 0] : Fin 3 → Nat) a + S1x128x256.size a ≤ S2x128x256.size a := by
  revert σ; decide
theorem packed_ys (σ : Fin 2) :
    (Rect.unit (s := S2x128x256) ![σ.val, 0, 0] S1x128x256.size (inb_ys σ)).PackedRows (EltTy.packing .bf16) := by
  revert σ; decide
theorem words_ys (σ : Fin 2) :
    (Rect.unit (s := S2x128x256) ![σ.val, 0, 0] S1x128x256.size (inb_ys σ)).WholeWords (EltTy.packing .bf16) := by
  revert σ; decide

/-- The load semaphore of slot `σ`. -/
abbrev loadS (σ : Fin 2) : DmaSem sig :=
  ((cc0_scratch3.slice (Rect.unit (s := S2) ![σ.val] S1.size (inb_sem σ))).squeeze S_ squeezes_S1_S_).sem
/-- The semaphore of the device's own copy. -/
abbrev copyS : DmaSem sig := cc0_scratch4.sem
/-- The send semaphore of slot `σ`. -/
abbrev sendS (σ : Fin 2) : DmaSem sig :=
  ((cc0_scratch5.slice (Rect.unit (s := S2) ![σ.val] S1.size (inb_sem σ))).squeeze S_ squeezes_S1_S_).sem
/-- The receive semaphore that device `d`'s transfers complete on. -/
abbrev recvS (d : Dev nD) : DmaSem sig :=
  ((cc0_scratch6.slice (Rect.unit (s := S32) (k0_off2 d) S1.size (k0_off2_inb d))).squeeze S_ squeezes_S1_S_).sem
/-- The receive semaphore of the `r`-th wait on device `d`. -/
abbrev recvWaitS (d : Dev nD) (r : Fin 31) : DmaSem sig :=
  ((cc0_scratch6.slice (Rect.unit (s := S32) (k0_off4 d (BitVec.ofNat 32 (1 + r.val))) S1.size (k0_off4_inb d r))).squeeze
    S_ squeezes_S1_S_).sem

/-- Slot `σ` of the loaded weights. -/
abbrev wbSlot (σ : Fin 2) : Memref sig .tc .vmem S4096x256 .f32 :=
  (wbM.slice (Rect.unit (s := S2x4096x256) ![σ.val, 0, 0] S1x4096x256.size (inb_wb σ)) (fun _ => rfl)).squeeze S4096x256
    squeezes_S1x4096x256_S4096x256
/-- The weight columns that step `r` of device `d` loads. -/
abbrev wCols (d : Dev nD) (r : Fin 32) : Memref sig .tc .hbm S4096x256 .f32 :=
  wM.slice (Rect.unit (s := S4096x8192) (k0_off1 d (BitVec.ofNat 32 r.val)) S4096x256.size (k0_off1_inb d r)) (fun _ => rfl)
/-- Slot `σ` of the products to send. -/
abbrev ysSlot (σ : Fin 2) : Memref sig .tc .vmem S128x256 .bf16 :=
  (ysM.slice (Rect.unit (s := S2x128x256) ![σ.val, 0, 0] S1x128x256.size (inb_ys σ)) (fun _ => rfl)).squeeze S128x256
    squeezes_S1x128x256_S128x256
/-- The row of the landing buffer that device `d` writes, on every device. -/
abbrev cmRow (d : Dev nD) : Memref sig .tc .vmem S128x256 .bf16 :=
  (cmM.slice (Rect.unit (s := S32x128x256) (k0_off3 d) S1x128x256.size (k0_off3_inb d)) (fun _ => rfl)).squeeze S128x256
    squeezes_S1x128x256_S128x256
/-- The row of the landing buffer that the `r`-th receive wait of device `d` names. -/
abbrev cmWaitRow (d : Dev nD) (r : Fin 31) : Memref sig .tc .vmem S128x256 .bf16 :=
  (cmM.slice (Rect.unit (s := S32x128x256) (k0_off5 d (BitVec.ofNat 32 (1 + r.val))) S1x128x256.size (k0_off5_inb d r))
    (fun _ => rfl)).squeeze S128x256 squeezes_S1x128x256_S128x256

/-- Slot `σ` of the products, as the run of indices a load or a store takes. -/
abbrev ysRect (σ : Fin 2) : Rect S2x128x256 := Rect.unit (s := S2x128x256) ![σ.val, 0, 0] S1x128x256.size (inb_ys σ)

/-! ## The devices the kernel addresses -/

/-- The device that the `i`-th barrier signal of `d` goes to. -/
def barDev (d : Dev nD) : ℕ → Dev nD
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩
  | 5 => ⟨k0_dev6 d, k0_dev6_lt d⟩
  | 6 => ⟨k0_dev7 d, k0_dev7_lt d⟩
  | 7 => ⟨k0_dev8 d, k0_dev8_lt d⟩
  | 8 => ⟨k0_dev9 d, k0_dev9_lt d⟩
  | 9 => ⟨k0_dev10 d, k0_dev10_lt d⟩
  | 10 => ⟨k0_dev11 d, k0_dev11_lt d⟩
  | 11 => ⟨k0_dev12 d, k0_dev12_lt d⟩
  | 12 => ⟨k0_dev13 d, k0_dev13_lt d⟩
  | 13 => ⟨k0_dev14 d, k0_dev14_lt d⟩
  | 14 => ⟨k0_dev15 d, k0_dev15_lt d⟩
  | 15 => ⟨k0_dev16 d, k0_dev16_lt d⟩
  | 16 => ⟨k0_dev17 d, k0_dev17_lt d⟩
  | 17 => ⟨k0_dev18 d, k0_dev18_lt d⟩
  | 18 => ⟨k0_dev19 d, k0_dev19_lt d⟩
  | 19 => ⟨k0_dev20 d, k0_dev20_lt d⟩
  | 20 => ⟨k0_dev21 d, k0_dev21_lt d⟩
  | 21 => ⟨k0_dev22 d, k0_dev22_lt d⟩
  | 22 => ⟨k0_dev23 d, k0_dev23_lt d⟩
  | 23 => ⟨k0_dev24 d, k0_dev24_lt d⟩
  | 24 => ⟨k0_dev25 d, k0_dev25_lt d⟩
  | 25 => ⟨k0_dev26 d, k0_dev26_lt d⟩
  | 26 => ⟨k0_dev27 d, k0_dev27_lt d⟩
  | 27 => ⟨k0_dev28 d, k0_dev28_lt d⟩
  | 28 => ⟨k0_dev29 d, k0_dev29_lt d⟩
  | 29 => ⟨k0_dev30 d, k0_dev30_lt d⟩
  | 30 => ⟨k0_dev31 d, k0_dev31_lt d⟩
  | _ => d

/-- The device that step `i` of `d` sends to. -/
def sendDev (d : Dev nD) : ℕ → Dev nD
  | 0 => ⟨k0_dev32 d, k0_dev32_lt d⟩
  | 1 => ⟨k0_dev33 d, k0_dev33_lt d⟩
  | 2 => ⟨k0_dev34 d, k0_dev34_lt d⟩
  | 3 => ⟨k0_dev35 d, k0_dev35_lt d⟩
  | 4 => ⟨k0_dev36 d, k0_dev36_lt d⟩
  | 5 => ⟨k0_dev37 d, k0_dev37_lt d⟩
  | 6 => ⟨k0_dev38 d, k0_dev38_lt d⟩
  | 7 => ⟨k0_dev39 d, k0_dev39_lt d⟩
  | 8 => ⟨k0_dev40 d, k0_dev40_lt d⟩
  | 9 => ⟨k0_dev41 d, k0_dev41_lt d⟩
  | 10 => ⟨k0_dev42 d, k0_dev42_lt d⟩
  | 11 => ⟨k0_dev43 d, k0_dev43_lt d⟩
  | 12 => ⟨k0_dev44 d, k0_dev44_lt d⟩
  | 13 => ⟨k0_dev45 d, k0_dev45_lt d⟩
  | 14 => ⟨k0_dev46 d, k0_dev46_lt d⟩
  | 15 => ⟨k0_dev47 d, k0_dev47_lt d⟩
  | 16 => ⟨k0_dev48 d, k0_dev48_lt d⟩
  | 17 => ⟨k0_dev49 d, k0_dev49_lt d⟩
  | 18 => ⟨k0_dev50 d, k0_dev50_lt d⟩
  | 19 => ⟨k0_dev51 d, k0_dev51_lt d⟩
  | 20 => ⟨k0_dev52 d, k0_dev52_lt d⟩
  | 21 => ⟨k0_dev53 d, k0_dev53_lt d⟩
  | 22 => ⟨k0_dev54 d, k0_dev54_lt d⟩
  | 23 => ⟨k0_dev55 d, k0_dev55_lt d⟩
  | 24 => ⟨k0_dev56 d, k0_dev56_lt d⟩
  | 25 => ⟨k0_dev57 d, k0_dev57_lt d⟩
  | 26 => ⟨k0_dev58 d, k0_dev58_lt d⟩
  | 27 => ⟨k0_dev59 d, k0_dev59_lt d⟩
  | 28 => ⟨k0_dev60 d, k0_dev60_lt d⟩
  | 29 => ⟨k0_dev61 d, k0_dev61_lt d⟩
  | 30 => ⟨k0_dev62 d, k0_dev62_lt d⟩
  | _ => d

/-- The index of step `i`, read below the number of steps. -/
abbrev stepIx (i : ℕ) : Fin 32 := ⟨i % 32, Nat.mod_lt _ (by decide)⟩
/-- The slot of step `i`. -/
abbrev slotOf (i : ℕ) : Fin 2 := ⟨i % 2, Nat.mod_lt _ (by decide)⟩

/-! ## The pieces -/

/-- `body i`, `body (i + 1)`, … , `n` of them, then `k`. -/
def loop (body : ℕ → BProg F) (k : BProg F) : ℕ → ℕ → BProg F
  | 0, _ => k
  | n + 1, i => body i >>= fun _ => loop body k n (i + 1)

/-- The `i`-th barrier signal. -/
def signal (d : Dev nD) (i : ℕ) : BProg F := semSignalWord (barDev d i) barS 1#32

/-- The load of the weight columns of step `i` into its slot. -/
def startLoad (d : Dev nD) (i : ℕ) : BProg F :=
  Prog.lift (.enqueueDma (wCols d (stepIx i)) (.here (wbSlot (slotOf i))) (.dma (loadS (slotOf i))) (View.wordExact_bits rfl)
    ((View.wordExact_bits rfl).reshape _ _) ⟨Or.inl rfl, trivial⟩)

/-- The wait for that load. -/
def waitLoad (d : Dev nD) (i : ℕ) : BProg F :=
  Prog.lift (.waitDma2 (loadS (slotOf i)) (wCols d (stepIx i)) (wbSlot (slotOf i)) (View.wordExact_bits rfl)
    ((View.wordExact_bits rfl).reshape _ _))

/-- The wait for the transfer that left slot `σ`. -/
def waitSend (d : Dev nD) (σ : Fin 2) : BProg F :=
  Prog.lift (.waitDma2 (sendS σ) (cmRow d) (ysSlot σ)
    (((Memref.isWhole_whole _).wordExact_slice rfl _ (k0_off3_wordsbf16 d)).reshape _ _)
    (((Memref.isWhole_whole _).wordExact_slice rfl _ (words_ys σ)).reshape _ _))

/-- The product of the loaded slot `σ` with the device's rows of x, stored in slot `σ`; `w` runs before the store. -/
def product (w : BProg F) (σ : Fin 2) : BProg F := do
  let b : Vec F S1x4096x256 .f32 ← Prog.lift (.load wbM (Rect.unit (s := S2x4096x256) ![σ.val, 0, 0] S1x4096x256.size
    (inb_wb σ)).toLoadRect (View.loadsAt_vmem h_S1x4096x256))
  let a : Vec F S128x4096 .bf16 ← Prog.lift (.load xM (Rect.unit (s := S128x4096) ![0, 0] S128x4096.size
    inb_S128x4096_S128x4096_0_0).toLoadRect (View.loadsAt_vmem h_S128x4096))
  w
  let _ : Vec F S1x128x256 .bf16 ← Prog.lift (.load ysM (ysRect σ).toLoadRect (View.loadsAt_vmem h_S1x128x256))
  Prog.lift (.store ysM (ysRect σ) (k0_pay2 b a) Finset.univ (View.stores_vmem h_S1x128x256
    ((Memref.isWhole_whole _).storeExact_slice rfl _ (packed_ys σ)) (fun _ => rfl)) (.inl rfl))

/-- The transfer of slot `σ` to device `p`'s landing buffer. -/
def startSend (d p : Dev nD) (σ : Fin 2) : BProg F :=
  Prog.lift (.enqueueDma (ysSlot σ) (.remote (Dev.tc p) (cmRow d) (.dma (sendS σ))) (.dma (recvS d))
    (((Memref.isWhole_whole _).wordExact_slice rfl _ (words_ys σ)).reshape _ _)
    (((Memref.isWhole_whole _).wordExact_slice rfl _ (k0_off3_wordsbf16 d)).reshape _ _) ⟨⟨rfl, Or.inl rfl⟩, trivial⟩)

/-- The copy of slot `1` into the device's own row, and its wait. -/
def ownCopy (d : Dev nD) : BProg F := do
  Prog.lift (.enqueueDma (ysSlot 1) (.here (cmRow d)) (.dma copyS)
    (((Memref.isWhole_whole _).wordExact_slice rfl _ (words_ys 1)).reshape _ _)
    (((Memref.isWhole_whole _).wordExact_slice rfl _ (k0_off3_wordsbf16 d)).reshape _ _) ⟨Or.inl rfl, trivial⟩)
  Prog.lift (.waitDma2 copyS (ysSlot 1) (cmRow d)
    (((Memref.isWhole_whole _).wordExact_slice rfl _ (words_ys 1)).reshape _ _)
    (((Memref.isWhole_whole _).wordExact_slice rfl _ (k0_off3_wordsbf16 d)).reshape _ _))

/-- A step that finds its slot idle (the first two). -/
def stepA (d : Dev nD) (i : ℕ) : BProg F := do
  startLoad d (i + 1)
  waitLoad d i
  product (pure ⟨⟩) (slotOf i)
  startSend d (sendDev d i) (slotOf i)

/-- A step that waits for its slot's last transfer before it stores. -/
def stepB (d : Dev nD) (i : ℕ) : BProg F := do
  startLoad d (i + 1)
  waitLoad d i
  product (waitSend d (slotOf i)) (slotOf i)
  startSend d (sendDev d i) (slotOf i)

/-- The last step: no load to start, and the product goes to the device's own row. -/
def stepC (d : Dev nD) : BProg F := do
  waitLoad d 31
  product (waitSend d 1) 1
  ownCopy d

/-- The `i`-th receive wait. -/
def waitRecv (d : Dev nD) (i : ℕ) : BProg F :=
  Prog.lift (.waitDma2 (recvWaitS d ⟨i % 31, Nat.mod_lt _ (by decide)⟩) (ysSlot 0) (cmWaitRow d ⟨i % 31, Nat.mod_lt _ (by decide)⟩)
    (((Memref.isWhole_whole _).wordExact_slice rfl _ (words_ys 0)).reshape _ _)
    (((Memref.isWhole_whole _).wordExact_slice rfl _ (k0_off5_wordsbf16 d _)).reshape _ _))

/-- The activation of everything that has landed, stored as the result. -/
def finish : BProg F := do
  let v : Vec F S32x128x256 .bf16 ← Prog.lift (.load cmM (Rect.unit (s := S32x128x256) ![0, 0, 0] S32x128x256.size
    inb_S32x128x256_S32x128x256_0_0_0).toLoadRect (View.loadsAt_vmem h_S32x128x256))
  let _ : Vec F S4096x256 .f32 ← Prog.lift (.load oM (Rect.unit (s := S4096x256) ![0, 0] S4096x256.size
    inb_S4096x256_S4096x256_0_0).toLoadRect (View.loadsAt_vmem h_S4096x256))
  Prog.lift (.store oM (Rect.unit (s := S4096x256) ![0, 0] S4096x256.size inb_S4096x256_S4096x256_0_0) (k0_pay1 v) Finset.univ
    (View.stores_vmem_bits_univ h_S4096x256 rfl) (.inl rfl))
  pure ⟨⟩

/-- The last step and all that follows it. -/
def tail (d : Dev nD) : BProg F := do
  stepC d
  waitSend d 0
  loop (waitRecv d) finish 31 0

/-- Everything after the barrier. -/
def steps (d : Dev nD) : BProg F := do
  startLoad d 0
  stepA d 0
  stepA d 1
  loop (stepB d) (tail d) 29 2

/-- The whole body, on device `d`. -/
def bodyOn (d : Dev nD) : BProg F :=
  loop (signal d) (semWaitWord barS 31#32 >>= fun _ => steps d) 31 0

/-- The whole body. -/
def prog : BProg F := Prog.lift .deviceId >>= fun d => bodyOn d

set_option maxRecDepth 65536 in
/-- The printed body, on the buffers the launch calls it with, is the structured program. -/
theorem body_eq :
    cc0_body (F := F) xM (Memref.isWhole_whole _) wM (Memref.isWhole_whole _) oM (Memref.isWhole_whole _) wbM
      (Memref.isWhole_whole _) ysM (Memref.isWhole_whole _) cmM (Memref.isWhole_whole _) cc0_scratch3 cc0_scratch4 cc0_scratch5
      cc0_scratch6 = prog := by
  chain_rfl

end Cert.AllToAll
-- ==== Proof.Mesh.lean ====
/-
# The mesh's arithmetic: peers, sources, semaphores, rows

Closed forms for everything the kernel computes from its device number: which device step `i` sends to, which device the
`i`-th receive wait hears from, which columns of the weights a step loads, which semaphore a device's transfers complete
on, and which elements of the landing buffer they cover.
-/
module

public import proofs.«01_k».proof.Proof.Prog
public import Idealize.ShloMosaic.Lib.Pipeline.Value

@[expose] public section

noncomputable section

namespace Cert.AllToAll

open Cert.KernelIdeal Cert.KernelIdeal.Gen
open Idealize.ShloMosaic Idealize.SL.Sem

variable {F : FTy → Type} [FloatOps F]

/-! ## Peers and sources -/

set_option backward.proofsInPublic true in
/-- The device that step `i` of device `c` sends to (itself at step 31). -/
def peer (c : Dev nD) (i : ℕ) : Dev nD := ⟨(c.val + i + 1) % 32, Nat.mod_lt _ (by decide)⟩
set_option backward.proofsInPublic true in
/-- The device that the `i`-th receive wait of device `c` hears from. -/
def src (c : Dev nD) (i : ℕ) : Dev nD := ⟨(c.val + 31 - i) % 32, Nat.mod_lt _ (by decide)⟩

theorem peer_ne (c : Dev nD) {i : ℕ} (h : i < 31) : peer c i ≠ c := by
  intro e
  have h1 := congrArg Fin.val e
  have h2 : c.val < 32 := c.isLt
  simp only [peer] at h1
  omega

theorem src_ne (c : Dev nD) {i : ℕ} (h : i < 31) : src c i ≠ c := by
  intro e
  have h1 := congrArg Fin.val e
  have h2 : c.val < 32 := c.isLt
  simp only [src] at h1
  omega

theorem peer_last (c : Dev nD) : peer c 31 = c := by
  have h2 : c.val < 32 := c.isLt
  exact Fin.ext (by simp only [peer]; omega)

theorem peer_injOn (c : Dev nD) {i j : ℕ} (hi : i < 31) (hj : j < 31) (e : peer c i = peer c j) : i = j := by
  have h1 := congrArg Fin.val e
  have h2 : c.val < 32 := c.isLt
  simp only [peer] at h1
  omega

theorem src_injOn (c : Dev nD) {i j : ℕ} (hi : i < 31) (hj : j < 31) (e : src c i = src c j) : i = j := by
  have h1 := congrArg Fin.val e
  have h2 : c.val < 32 := c.isLt
  simp only [src] at h1
  omega

/-- The peers of steps 0 to 30 are every device but oneself; -/
theorem image_peer (c : Dev nD) : (Finset.Ico 0 31).image (peer c) = Finset.univ.erase c := by
  revert c; decide +kernel
/-- and so are the sources of the 31 receive waits. -/
theorem image_src (c : Dev nD) : (Finset.Ico 0 31).image (src c) = Finset.univ.erase c := by
  revert c; decide +kernel

theorem barDev_eq (c : Dev nD) {i : ℕ} (h : i < 31) : barDev c i = peer c i :=
  (show ∀ (c : Dev nD) (i : Fin 31), barDev c i.val = peer c i.val by decide +kernel) c ⟨i, h⟩
theorem sendDev_eq (c : Dev nD) {i : ℕ} (h : i < 31) : sendDev c i = peer c i :=
  (show ∀ (c : Dev nD) (i : Fin 31), sendDev c i.val = peer c i.val by decide +kernel) c ⟨i, h⟩

/-- The semaphore of the `i`-th receive wait is the one that its source's transfers complete on. -/
theorem recvWaitS_eq (c : Dev nD) (r : Fin 31) : recvWaitS c r = recvS (src c r.val) := by
  revert c r; decide +kernel

theorem recvS_val (q : Dev nD) : (recvS q).val = 7 + q.val := by revert q; decide +kernel

/-- Step `i` loads the columns of the device it sends to. -/
theorem off1_eq (c : Dev nD) (r : Fin 32) : k0_off1 c (BitVec.ofNat 32 r.val) = ![0, 256 * (peer c r.val).val] := by
  revert c r; decide +kernel

/-! ## The semaphores told apart -/

/-- A semaphore's part in the exchange: `some none` the barrier, `some (some q)` the one that device `q`'s transfers
    complete on, `none` any other. -/
def role : SemLoc sig → Option (Option (Dev nD))
  | .reg s => if s = barS then some none else none
  | .dma s => if h : 7 ≤ s.val then some (some ⟨s.val - 7, by have h2 : s.val < 39 := s.isLt; show s.val - 7 < 32; omega⟩) else none

theorem role_bar : role (.reg barS) = some none := by unfold role; exact if_pos rfl
theorem role_recv (q : Dev nD) : role (.dma (recvS q)) = some (some q) := by
  have h : 7 ≤ (recvS q).val := by rw [recvS_val]; omega
  show dite _ _ _ = _
  rw [dif_pos h]
  refine congrArg some (congrArg some (Fin.ext ?_))
  show (recvS q).val - 7 = q.val
  rw [recvS_val]; omega
theorem role_dma_low {s : DmaSem sig} (h : s.val < 7) : role (.dma s) = none := dif_neg (by omega)

theorem recvS_inj {q q' : Dev nD} (h : recvS q = recvS q') : q = q' := by
  have := congrArg Fin.val h
  rw [recvS_val, recvS_val] at this
  exact Fin.ext (by omega)

/-! ## The rows of the landing buffer -/

/-- The elements that device `q`'s transfers write: -/
abbrev rowSet (q : Dev nD) : Finset S32x128x256.Idx := (cmRow q).view.set

/-- the ones whose first coordinate is `q`. -/
theorem mem_row (q : Dev nD) (k : S32x128x256.Idx) : k ∈ ((cmRow q).view.set : Finset S32x128x256.Idx) ↔ (k 0).val = q.val := by
  rw [show ((cmRow q).view.set : Finset S32x128x256.Idx)
      = (Rect.unit (s := S32x128x256) (k0_off3 q) S1x128x256.size (k0_off3_inb q)).set from
        (View.set_reshape _ _).trans (View.set_slice_whole _ _), Rect.mem_set_unit, k0_off3_eq]
  constructor
  · intro h
    have h0 := h 0
    change q.val ≤ (k 0).val ∧ (k 0).val < q.val + 1 at h0
    omega
  · intro h a
    have h1 : (k 1).val < 128 := (k 1).isLt
    have h2 : (k 2).val < 256 := (k 2).isLt
    fin_cases a
    · change q.val ≤ (k 0).val ∧ (k 0).val < q.val + 1; omega
    · change 0 ≤ (k 1).val ∧ (k 1).val < 0 + 128; omega
    · change 0 ≤ (k 2).val ∧ (k 2).val < 0 + 256; omega

theorem row_disjoint {q q' : Dev nD} (h : q ≠ q') :
    Disjoint ((cmRow q).view.set : Finset S32x128x256.Idx) ((cmRow q').view.set : Finset S32x128x256.Idx) :=
  Finset.disjoint_left.mpr fun k hk hk' => h (Fin.ext (((mem_row q k).mp hk).symm.trans ((mem_row q' k).mp hk')))

/-- The rows together are the whole landing buffer. -/
theorem rows_univ : (Finset.univ : Finset (Dev nD)).biUnion rowSet = Finset.univ := by
  refine Finset.eq_univ_iff_forall.mpr fun k => Finset.mem_biUnion.mpr ⟨⟨(k 0).val, (k 0).isLt⟩, Finset.mem_univ _, (mem_row _ k).mpr rfl⟩

/-! ## The two slots -/

theorem mem_wbSlot (σ : Fin 2) (k : S2x4096x256.Idx) : k ∈ ((wbSlot σ).view.set : Finset S2x4096x256.Idx) ↔ (k 0).val = σ.val := by
  rw [show ((wbSlot σ).view.set : Finset S2x4096x256.Idx)
      = (Rect.unit (s := S2x4096x256) ![σ.val, 0, 0] S1x4096x256.size (inb_wb σ)).set from
        (View.set_reshape _ _).trans (View.set_slice_whole _ _), Rect.mem_set_unit]
  constructor
  · intro h
    have h0 := h 0
    change σ.val ≤ (k 0).val ∧ (k 0).val < σ.val + 1 at h0
    omega
  · intro h a
    have h1 : (k 1).val < 4096 := (k 1).isLt
    have h2 : (k 2).val < 256 := (k 2).isLt
    fin_cases a
    · change σ.val ≤ (k 0).val ∧ (k 0).val < σ.val + 1; omega
    · change 0 ≤ (k 1).val ∧ (k 1).val < 0 + 4096; omega
    · change 0 ≤ (k 2).val ∧ (k 2).val < 0 + 256; omega

theorem mem_ysSlot (σ : Fin 2) (k : S2x128x256.Idx) : k ∈ ((ysSlot σ).view.set : Finset S2x128x256.Idx) ↔ (k 0).val = σ.val := by
  rw [show ((ysSlot σ).view.set : Finset S2x128x256.Idx)
      = (Rect.unit (s := S2x128x256) ![σ.val, 0, 0] S1x128x256.size (inb_ys σ)).set from
        (View.set_reshape _ _).trans (View.set_slice_whole _ _), Rect.mem_set_unit]
  constructor
  · intro h
    have h0 := h 0
    change σ.val ≤ (k 0).val ∧ (k 0).val < σ.val + 1 at h0
    omega
  · intro h a
    have h1 : (k 1).val < 128 := (k 1).isLt
    have h2 : (k 2).val < 256 := (k 2).isLt
    fin_cases a
    · change σ.val ≤ (k 0).val ∧ (k 0).val < σ.val + 1; omega
    · change 0 ≤ (k 1).val ∧ (k 1).val < 0 + 128; omega
    · change 0 ≤ (k 2).val ∧ (k 2).val < 0 + 256; omega

theorem wbSlot_union : ((wbSlot 0).view.set : Finset S2x4096x256.Idx) ∪ ((wbSlot 1).view.set : Finset S2x4096x256.Idx) = Finset.univ := by
  refine Finset.eq_univ_iff_forall.mpr fun k => Finset.mem_union.mpr ?_
  have h : (k 0).val < 2 := (k 0).isLt
  rcases Nat.lt_or_ge (k 0).val 1 with h0 | h0
  · exact Or.inl ((mem_wbSlot 0 k).mpr (show (k 0).val = 0 by omega))
  · exact Or.inr ((mem_wbSlot 1 k).mpr (show (k 0).val = 1 by omega))
theorem wbSlot_disjoint : Disjoint ((wbSlot 0).view.set : Finset S2x4096x256.Idx) ((wbSlot 1).view.set : Finset S2x4096x256.Idx) :=
  Finset.disjoint_left.mpr fun k hk hk' => absurd (((mem_wbSlot 0 k).mp hk).symm.trans ((mem_wbSlot 1 k).mp hk')) (by decide)

theorem ysSlot_union : ((ysSlot 0).view.set : Finset S2x128x256.Idx) ∪ ((ysSlot 1).view.set : Finset S2x128x256.Idx) = Finset.univ := by
  refine Finset.eq_univ_iff_forall.mpr fun k => Finset.mem_union.mpr ?_
  have h : (k 0).val < 2 := (k 0).isLt
  rcases Nat.lt_or_ge (k 0).val 1 with h0 | h0
  · exact Or.inl ((mem_ysSlot 0 k).mpr (show (k 0).val = 0 by omega))
  · exact Or.inr ((mem_ysSlot 1 k).mpr (show (k 0).val = 1 by omega))
theorem ysSlot_disjoint : Disjoint ((ysSlot 0).view.set : Finset S2x128x256.Idx) ((ysSlot 1).view.set : Finset S2x128x256.Idx) :=
  Finset.disjoint_left.mpr fun k hk hk' => absurd (((mem_ysSlot 0 k).mp hk).symm.trans ((mem_ysSlot 1 k).mp hk')) (by decide)

/-! ## Credits -/

/-- The credit of one block of products; -/
abbrev N : ℕ := (cmRow (0 : Dev nD)).view.dmaCredit
theorem N_pos : 0 < N := View.dmaCredit_pos _ (by decide)
/-- and of one slot of weights. -/
abbrev NW : ℕ := (wbSlot 0).view.dmaCredit
theorem NW_pos : 0 < NW := View.dmaCredit_pos _ (by decide)

theorem credit_cmRow (q : Dev nD) : (cmRow q).view.dmaCredit = N := rfl
theorem credit_cmWaitRow (q : Dev nD) (r : Fin 31) : (cmWaitRow q r).view.dmaCredit = N := rfl
theorem credit_ysSlot (σ : Fin 2) : (ysSlot σ).view.dmaCredit = N := rfl
theorem credit_wbSlot (σ : Fin 2) : (wbSlot σ).view.dmaCredit = NW := rfl

end Cert.AllToAll
-- ==== Proof.Contents.lean ====
/-
# What the buffers hold

The product one step computes, the block of weights it reads, and the contents of a device's landing buffer once every
block has arrived; what each view of these buffers reads.
-/
module

public import proofs.«01_k».proof.Proof.Mesh
public import Idealize.ShloMosaic.Lib.ValueLayout

@[expose] public section

noncomputable section

namespace Cert.AllToAll

open Cert.KernelIdeal Cert.KernelIdeal.Gen
open Idealize.ShloMosaic Idealize.ShloMosaic.ValueIdx Idealize.SL.Sem

variable {F : FTy → Type} [FloatOps F]

theorem casts_block : S1x128x256.ShapeCasts S128x256 := by decide

/-- The product one step stores: the rows of x times the columns of w rounded to bf16, rounded to bf16. -/
def mmul (w : Vec F S4096x256 .f32) (x : Vec F S128x4096 .bf16) : FVec F S128x256 .bf16 :=
  truncf .bf16 (matmul dot_S128x4096_S4096x256_S128x256_1_0_0_1_n_n none x (truncf .bf16 w bitsLt_bf16_f32)
    (constant S128x256 .f32 0x00000000#32)) bitsLt_bf16_f32

/-- What a step stores is that product, as a stack of one matrix. -/
theorem pay2_eq (b : Vec F S1x4096x256 .f32) (a : Vec F S128x4096 .bf16) :
    k0_pay2 b a = shapeCast S1x128x256 (mmul (shapeCast S4096x256 b shapeCasts_S1x4096x256_S4096x256) a) shapeCasts_S128x256_S1x128x256 := by
  show shapeCast S1x128x256 (truncf .bf16 (matmul dot_S128x4096_S4096x256_S128x256_1_0_0_1_n_n none
    (shapeCast S128x4096 a shapeCasts_S128x4096_S128x4096) (truncf .bf16 (shapeCast S4096x256 b shapeCasts_S1x4096x256_S4096x256) bitsLt_bf16_f32)
    (constant S128x256 .f32 0x00000000#32)) bitsLt_bf16_f32) shapeCasts_S128x256_S1x128x256 = _
  rw [shapeCast_self]
  rfl

/-- Column block `q` of the weights: 256 columns from `256 * q` on. -/
def wcol (W : Vec F S4096x8192 .f32) (q : Dev nD) : Vec F S4096x256 .f32 := fun k =>
  W (ix2 (k 0) ⟨256 * q.val + (k 1).val, by
    have h1 : (k 1).val < 256 := (k 1).isLt
    have h2 : q.val < 32 := q.isLt
    show 256 * q.val + (k 1).val < 8192
    omega⟩)

/-- The block that device `q` sends to device `j`: `q`'s rows of x times column block `j` of `q`'s weights. -/
def block (X : Dev nD → Vec F S128x4096 .bf16) (W : Dev nD → Vec F S4096x8192 .f32) (q j : Dev nD) : FVec F S128x256 .bf16 :=
  mmul (wcol (W q) j) (X q)

/-- Device `j`'s landing buffer once every block has arrived: row `q` is the block device `q` sent. -/
def landed (X : Dev nD → Vec F S128x4096 .bf16) (W : Dev nD → Vec F S4096x8192 .f32) (j : Dev nD) : Vec F S32x128x256 .bf16 :=
  fun k => block X W ⟨(k 0).val, (k 0).isLt⟩ j (ix2 (k 1) (k 2))

/-- The columns that step `r` of device `c` loads are those of the device it sends to. -/
theorem read_wCols (c : Dev nD) (r : Fin 32) (W : Vec F S4096x8192 .f32) :
    (wCols c r).view.read (Elt F) W = wcol W (peer c r.val) := by
  funext k
  show W ((Rect.unit (s := S4096x8192) (k0_off1 c (BitVec.ofNat 32 r.val)) S4096x256.size (k0_off1_inb c r)).emb k) = _
  unfold wcol
  refine congrArg W (funext fun a => Fin.ext ?_)
  rw [Rect.emb_apply]
  simp only [Rect.off_unit, Rect.stride_unit, off1_eq]
  fin_cases a
  · show 0 + 1 * (k 0).val = (k 0).val; omega
  · show 256 * (peer c r.val).val + 1 * (k 1).val = 256 * (peer c r.val).val + (k 1).val; omega

/-- Row `q` of the landed buffer is the block that device `q` sent. -/
theorem read_landed (X : Dev nD → Vec F S128x4096 .bf16) (W : Dev nD → Vec F S4096x8192 .f32) (q j : Dev nD) :
    (cmRow q).view.read (Elt F) (landed X W j) = block X W q j := by
  rw [Memref.read_squeeze_slice cmM _ (fun _ => rfl) squeezes_S1x128x256_S128x256 casts_block (landed X W j)]
  funext k
  rw [show k = ix2 (k 0) (k 1) from funext fun a => by fin_cases a <;> rfl]
  refine (shapeCast_1ab_ab_apply (a := 128) (b := 256) _ _ (k 0) (k 1)).trans ?_
  show landed X W j ((Rect.unit (s := S32x128x256) (k0_off3 q) S1x128x256.size (k0_off3_inb q)).emb (ix3 (0 : Fin 1) (k 0) (k 1))) = _
  unfold landed
  have h0 : ((Rect.unit (s := S32x128x256) (k0_off3 q) S1x128x256.size (k0_off3_inb q)).emb (ix3 (0 : Fin 1) (k 0) (k 1)) 0).val = q.val := by
    rw [Rect.emb_apply]; simp only [Rect.off_unit, Rect.stride_unit, k0_off3_eq]; rfl
  have h1 : (Rect.unit (s := S32x128x256) (k0_off3 q) S1x128x256.size (k0_off3_inb q)).emb (ix3 (0 : Fin 1) (k 0) (k 1)) 1 = k 0 := by
    refine Fin.ext ?_
    rw [Rect.emb_apply]; simp only [Rect.off_unit, Rect.stride_unit, k0_off3_eq]
    show 0 + 1 * (k 0).val = (k 0).val; omega
  have h2 : (Rect.unit (s := S32x128x256) (k0_off3 q) S1x128x256.size (k0_off3_inb q)).emb (ix3 (0 : Fin 1) (k 0) (k 1)) 2 = k 1 := by
    refine Fin.ext ?_
    rw [Rect.emb_apply]; simp only [Rect.off_unit, Rect.stride_unit, k0_off3_eq]
    show 0 + 1 * (k 1).val = (k 1).val; omega
  rw [h1, h2]
  exact congrArg (fun q' => block X W q' j (ix2 (k 0) (k 1))) (Fin.ext h0)

/-- A write of row `q`'s block agrees with the landed buffer on row `q`. -/
theorem write_row_agrees (X : Dev nD → Vec F S128x4096 .bf16) (W : Dev nD → Vec F S4096x8192 .f32) (q j : Dev nD)
    (f : Vec F S32x128x256 .bf16) : ∀ i ∈ rowSet q,
      (cmRow q).view.write (Elt F) f (block X W q j) Finset.univ i = landed X W j i := by
  intro i hi
  rw [← read_landed X W q j, View.write_read_eq_piecewise]
  exact Finset.piecewise_eq_of_mem _ _ _ hi

/-- A step's loads and its store, read back: the slot of products then holds the product of the weights that were loaded. -/
theorem read_stored (σ : Fin 2) (fw : Vec F S2x4096x256 .f32) (fy : Vec F S2x128x256 .bf16) (w : Vec F S4096x256 .f32)
    (hw : (wbSlot σ).view.read (Elt F) fw = w) (a : Vec F S128x4096 .bf16) :
    (ysSlot σ).view.read (Elt F) ((ysM.access (ysRect σ)).write (Elt F) fy
      (k0_pay2 (wbM.view.readAt (Elt F) (Rect.unit (s := S2x4096x256) ![σ.val, 0, 0] S1x4096x256.size (inb_wb σ)).toLoadRect fw) a)
      Finset.univ) = mmul w a := by
  rw [pay2_eq, Memref.read_squeeze_slice ysM _ (fun _ => rfl) squeezes_S1x128x256_S128x256 casts_block]
  rw [View.readAt_rect]
  have h := View.read_write_univ (Val := Elt F) (v := ysM.view.slice (ysRect σ)) fy
    (shapeCast S1x128x256 (mmul (shapeCast S4096x256 (wbM.view.readAt (Elt F) (Rect.unit (s := S2x4096x256) ![σ.val, 0, 0] S1x4096x256.size
      (inb_wb σ)).toLoadRect fw) shapeCasts_S1x4096x256_S4096x256) a) shapeCasts_S128x256_S1x128x256)
  refine (congrArg (fun v => shapeCast S128x256 v _) h).trans ?_
  refine (shapeCast_shapeCast (s := S128x256) (t := S1x128x256) _ _ _).trans ?_
  exact congrArg (fun v => mmul v a) ((Memref.read_squeeze_slice wbM _ (fun _ => rfl) squeezes_S1x4096x256_S4096x256
    shapeCasts_S1x4096x256_S4096x256 fw).symm.trans hw)

end Cert.AllToAll
-- ==== Proof.Schedule.lean ====
/-
# The exchange's protocol

Which cells the devices share, what each signal or transfer pays into them, and what a wait on them takes out.  A
device's barrier cell takes one unit from every other device, each with that device's own row of the landing buffer in
its hands: after the barrier a device holds its row of every other device's landing buffer, and so may write it.  A
receive cell takes one block's credit, with the row the block landed in.
-/
module

public import proofs.«01_k».proof.Proof.Contents
public import Idealize.ShloMosaic.Lib.Pipeline.Launch
public import Idealize.ShloMosaic.Lib.Pipeline.Kit
public import Idealize.ShloMosaic.Lib.Transfers
public import Mathlib.Algebra.BigOperators.Intervals

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's own rounds, their duties named by devices. -/
abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans (embR : Emb (UB × Counters) (MT nD τ sig Unit (Elt F) ℕ UU ℕ))
abbrev EC : UEmb Counters (MT nD τ sig Unit (Elt F) ℕ UU ℕ) := countersEmb
instance ER_landsIn : (ER : Emb UB 𝕄).LandsIn (upEmb : UEmb _ 𝕄) := by unfold ER; infer_instance

/-! ## The cells -/

/-- Device `c`'s barrier cell; -/
abbrev barCell (c : Dev nD) : GSem nD τ sig := ((c : Thread nD τ), .reg barS)
/-- its receive cell for device `q`'s block. -/
abbrev recvCell (c q : Dev nD) : GSem nD τ sig := ((c : Thread nD τ), .dma (recvS q))

/-- Row `q` of device `d`'s landing buffer, held outright at contents `f`. -/
def rowPts (d q : Dev nD) (f : Buf (Elt F) ((cmRow q).view.loc (d : Thread nD τ))) : sProp 𝕄 :=
  (cmRow q).view.loc (d : Thread nD τ) ↦[(cmRow q).view.set]{fullShare} f

instance rowPts_storable (d q : Dev nD) (f) : BI.Storable (upEmb : UEmb _ 𝕄) (rowPts (F := F) d q f) := by
  unfold rowPts; infer_instance

/-! ## The schedule -/

variable (X : Dev nD → Vec F S128x4096 .bf16) (W : Dev nD → Vec F S4096x8192 .f32)

/-- The devices that pay into a cell of device `c`, by the cell's part in the exchange. -/
def dutiesOf (c : Dev nD) : Option (Option (Dev nD)) → Finset (Dev nD)
  | none => ∅
  | some none => Finset.univ.erase c
  | some (some q) => if q = c then ∅ else {q}

/-- What comes with device `d`'s payment into device `c`'s cell. -/
def payOf (c d : Dev nD) : Option (Option (Dev nD)) → sProp 𝕄
  | none => iprop(emp)
  | some none => iprop(∃ f, rowPts d c f)
  | some (some q) => rowPts c q (landed X W c)

/-- How much a payment into a cell is. -/
def amountOf : Option (Option (Dev nD)) → ℕ
  | some none => 1
  | _ => N

/-- The schedule: one round, in which a barrier cell takes a unit from every other device and a receive cell the block
    of the device it is for. -/
def sched : Rounds.Schedule (GSem nD τ sig) (Dev nD) 𝕄 where
  duties g r := if r = 0 ∧ g.1.2 = .tc then dutiesOf g.1.1 (role g.2) else ∅
  unitless _ := False
  amount g _ _ := amountOf (role g.2)
  payload g _ d := payOf X W g.1.1 d (role g.2)
  amount_pos g _ _ _ := by
    show 0 < amountOf (role g.2)
    rcases role g.2 with _ | _ | q
    · exact N_pos
    · exact Nat.one_pos
    · exact N_pos

instance sched_payload_storable (g : GSem nD τ sig) (r : ℕ) (d : Dev nD) :
    BI.Storable (upEmb : UEmb _ 𝕄) ((sched (F := F) X W).payload g r d) := by
  show BI.Storable upEmb (payOf X W g.1.1 d (role g.2))
  rcases role g.2 with _ | _ | q
  · unfold payOf; infer_instance
  · unfold payOf; infer_instance
  · unfold payOf; infer_instance

section Tables
variable (c q d : Dev nD)

theorem duties_bar : (sched (F := F) X W).duties (barCell c) 0 = Finset.univ.erase c := by
  dsimp only [sched]; rw [if_pos ⟨rfl, rfl⟩, role_bar]; rfl
theorem duties_recv (h : q ≠ c) : (sched (F := F) X W).duties (recvCell c q) 0 = {q} := by
  dsimp only [sched]; rw [if_pos ⟨rfl, rfl⟩, role_recv]; exact if_neg h
theorem duties_recv_self : ∀ r, 0 ≤ r → (sched (F := F) X W).duties (recvCell c c) r = ∅ := by
  intro r _
  dsimp only [sched]
  split
  · rw [role_recv]; exact if_pos rfl
  · rfl
theorem duties_later (g : GSem nD τ sig) : ∀ r, 0 + 1 ≤ r → (sched (F := F) X W).duties g r = ∅ :=
  fun r hr => by dsimp only [sched]; rw [if_neg fun h => by omega]

theorem amount_bar : (sched (F := F) X W).amount (barCell c) 0 d = 1 := by dsimp only [sched]; rw [role_bar]; rfl
theorem amount_recv : (sched (F := F) X W).amount (recvCell c q) 0 d = N := by dsimp only [sched]; rw [role_recv]; rfl

theorem payload_bar : (sched (F := F) X W).payload (barCell c) 0 d = iprop(∃ f, rowPts d c f) := by
  dsimp only [sched]; rw [role_bar]; rfl
theorem payload_recv : (sched (F := F) X W).payload (recvCell c q) 0 d = rowPts c q (landed X W c) := by
  dsimp only [sched]; rw [role_recv]; rfl

theorem expect_bar : (sched (F := F) X W).expect (barCell c) 0 = 31 := by
  unfold Schedule.expect Schedule.amountOf
  rw [duties_bar, Finset.sum_congr rfl fun d _ => amount_bar X W c d, Finset.sum_const, Finset.card_erase_of_mem (Finset.mem_univ _),
    Finset.card_univ, Fintype.card_fin]
  rfl
theorem expect_recv (h : q ≠ c) : (sched (F := F) X W).expect (recvCell c q) 0 = N := by
  unfold Schedule.expect Schedule.amountOf
  rw [duties_recv X W c q h, Finset.sum_singleton, amount_recv]

/-- What the barrier's wait takes out: the device's own row of every other device's landing buffer. -/
theorem rest_bar : bigSep ((sched (F := F) X W).duties (barCell c) 0 \ ∅) (fun d => (sched (F := F) X W).payload (barCell c) 0 d)
    = bigSep (Finset.univ.erase c) (fun d => iprop(∃ f, rowPts d c f)) := by
  rw [Finset.sdiff_empty, duties_bar]
  exact bigSep_congr fun d _ => payload_bar X W c d
/-- What a receive wait takes out: the row the block landed in. -/
theorem rest_recv (h : q ≠ c) : bigSep ((sched (F := F) X W).duties (recvCell c q) 0 \ ∅) (fun d => (sched (F := F) X W).payload (recvCell c q) 0 d)
    = rowPts c q (landed X W c) := by
  rw [Finset.sdiff_empty, duties_recv X W c q h, bigSep_singleton, payload_recv]

end Tables

/-! ## What a device owes -/

/-- The credits of the blocks device `c` has yet to send, from step `s` on; -/
def Orecv (c : Dev nD) (s : ℕ) : CellTallies nD τ sig Unit := ∑ i ∈ Finset.Ico s 31, tallyAt (recvCell (peer c i) c) () N
/-- the barrier signals it has yet to give, from the `s`-th on. -/
def Obar (c : Dev nD) (s : ℕ) : CellTallies nD τ sig Unit := ∑ i ∈ Finset.Ico s 31, tallyAt (barCell (peer c i)) () 1
/-- What it owes at launch. -/
def O₀ (c : Dev nD) : CellTallies nD τ sig Unit := Orecv c 0 + Obar c 0

theorem Orecv_step (c : Dev nD) {s : ℕ} (h : s < 31) : Orecv c s = Orecv c (s + 1) + tallyAt (recvCell (peer c s) c) () N := by
  unfold Orecv; rw [Finset.sum_eq_sum_Ico_succ_bot h, add_comm]
theorem Obar_step (c : Dev nD) {s : ℕ} (h : s < 31) :
    Orecv c 0 + Obar c s = (Orecv c 0 + Obar c (s + 1)) + tallyAt (barCell (peer c s)) () 1 := by
  unfold Obar; rw [Finset.sum_eq_sum_Ico_succ_bot h, add_assoc, add_comm (tallyAt _ _ _)]
theorem Orecv_end (c : Dev nD) : Orecv c 31 = 0 := by unfold Orecv; rw [Finset.Ico_self, Finset.sum_empty]
theorem Obar_end (c : Dev nD) : Orecv c 0 + Obar c 31 = Orecv c 0 := by unfold Obar; rw [Finset.Ico_self, Finset.sum_empty, add_zero]

theorem sum_pos {s : ℕ} {f : ℕ → GSem nD τ sig} {n : ℕ} {g : GSem nD τ sig} {u : Unit}
    (h : 0 < (∑ i ∈ Finset.Ico s 31, tallyAt (f i) () n : CellTallies nD τ sig Unit) g u) : ∃ i ∈ Finset.Ico s 31, g = f i := by
  by_contra hn
  rw [Finset.sum_apply, Finsupp.finset_sum_apply, Finset.sum_eq_zero] at h
  · exact Nat.lt_irrefl 0 h
  · intro i hi
    rw [tallyAt_apply, if_neg fun h' => hn ⟨i, hi, h'.1⟩]

theorem Orecv_pos {c : Dev nD} {s : ℕ} {g : GSem nD τ sig} {u : Unit} (h : 0 < Orecv c s g u) : ∃ i ∈ Finset.Ico s 31, g = recvCell (peer c i) c :=
  sum_pos h
theorem O₀_pos {c : Dev nD} {g : GSem nD τ sig} {u : Unit} (h : 0 < O₀ c g u) :
    (∃ i ∈ Finset.Ico 0 31, g = recvCell (peer c i) c) ∨ ∃ i ∈ Finset.Ico 0 31, g = barCell (peer c i) := by
  unfold O₀ at h
  rw [Pi.add_apply, Finsupp.add_apply] at h
  rcases Nat.eq_zero_or_pos (Orecv c 0 g u) with h0 | h0
  · rw [h0, Nat.zero_add] at h; exact Or.inr (sum_pos h)
  · exact Or.inl (sum_pos h0)

/-! ## The levels -/

def L (g : GSem nD τ sig) : Finset Unit := if g.1.2 = .tc then {()} else ∅
/-- Barrier cells at 1, receive cells at 2, all others at 0. -/
def lv (g : GSem nD τ sig) (_ : Unit) : ℕ := match role g.2 with | none => 0 | some none => 1 | some (some _) => 2

theorem L_of_ne (g : GSem nD τ sig) (h : g.1.2 ≠ .tc) : L g = ∅ := if_neg h
theorem L_tc (c : Dev nD) (sm : SemLoc sig) : L ((c : Thread nD τ), sm) = {()} := if_pos rfl
theorem lv_low (c : Dev nD) {sm : SemLoc sig} (h : role sm = none) (u : Unit) : lv ((c : Thread nD τ), sm) u = 0 := by
  dsimp only [lv]; rw [h]
theorem lv_bar (c : Dev nD) (u : Unit) : lv (barCell c) u = 1 := by dsimp only [lv]; rw [role_bar]
theorem lv_recv (c q : Dev nD) (u : Unit) : lv (recvCell c q) u = 2 := by dsimp only [lv]; rw [role_recv]

/-- A device may wait on a cell of its own that is neither a barrier's nor a receive cell, whatever it owes of those. -/
theorem mayWait_low (c : Dev nD) {sm : SemLoc sig} (hsm : role sm = none) (O : CellTallies nD τ sig Unit)
    (hO : ∀ g u, 0 < O g u → (∃ p q, g = recvCell p q) ∨ ∃ p, g = barCell p) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by rcases hO g u hg with ⟨p, q, rfl⟩ | ⟨p, rfl⟩ <;> exact Finset.mem_singleton_self _)
    (fun p hp => by rw [Finset.mem_singleton.mp hp, lv_low c hsm])
    (fun g u hg => by
      rcases hO g u hg with ⟨p, q, rfl⟩ | ⟨p, rfl⟩
      · rw [lv_recv]; decide
      · rw [lv_bar]; decide)

/-- A device may wait at its barrier owing blocks. -/
theorem mayWait_bar (c : Dev nD) (s : ℕ) : (levAts L lv : sProp 𝕄) ⊢ MayWait (c : Thread nD τ) (.reg barS) () (Orecv c s) :=
  MayOwe.of_cut (L := L) (lev := lv) 1 (fun p hp => by rw [Finset.mem_singleton.mp hp, L_tc]; exact Finset.mem_singleton_self _)
    (fun g u hg => by obtain ⟨i, -, rfl⟩ := Orecv_pos hg; exact Finset.mem_singleton_self _)
    (fun p hp => by rw [Finset.mem_singleton.mp hp, lv_bar])
    (fun g u hg => by obtain ⟨i, -, rfl⟩ := Orecv_pos hg; rw [lv_recv]; decide)

theorem mayWait_steps (c : Dev nD) {sm : SemLoc sig} (hsm : role sm = none) (s : ℕ) :
    (levAts L lv : sProp 𝕄) ⊢ MayWait (c : Thread nD τ) sm () (Orecv c s) :=
  mayWait_low c hsm _ fun g u hg => by obtain ⟨i, -, rfl⟩ := Orecv_pos hg; exact Or.inl ⟨_, _, rfl⟩

theorem mayWait_start (c : Dev nD) {sm : SemLoc sig} (hsm : role sm = none) :
    (levAts L lv : sProp 𝕄) ⊢ MayWait (c : Thread nD τ) sm () (O₀ c) :=
  mayWait_low c hsm _ fun g u hg => by
    rcases O₀_pos hg with ⟨i, -, rfl⟩ | ⟨i, -, rfl⟩
    · exact Or.inl ⟨_, _, rfl⟩
    · exact Or.inr ⟨_, rfl⟩

theorem role_load (σ : Fin 2) : role (.dma (loadS σ)) = none := by revert σ; decide +kernel
theorem role_send (σ : Fin 2) : role (.dma (sendS σ)) = none := by revert σ; decide +kernel
theorem role_copy : role (.dma copyS) = none := by decide +kernel

end Cert.AllToAll
-- ==== Proof.Step.lean ====
/-
# The pieces of the body, one rule each

What each named piece of the program needs and leaves: the start of a load and its wait, the product, the start of a
transfer and its wait, the device's own copy, a barrier signal, the barrier's wait and a receive wait.
-/
module

public import proofs.«01_k».proof.Proof.Schedule

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x4096 .bf16) (W : Dev nD → Vec F S4096x8192 .f32)

abbrev 𝒱₀ : Variants := Variants.none

/-- The weakest precondition of a program on device `c`'s core. -/
abbrev WP (c : Dev nD) (p : BProg F) (Kt : PUnit → sProp 𝕄) : sProp 𝕄 :=
  wp frame (wpE (defs₀ (F := F)) 𝒱₀ (c : Thread nD τ) none) Set.univ p Kt

/-! ## What is held -/

/-- The core owes `O`. -/
def owing (c : Dev nD) (O : CellTallies nD τ sig Unit) : sProp 𝕄 := iprop(∃ Ws, owes (c : Thread nD τ) O Ws)

/-- The staged block of x. -/
def xPts (c : Dev nD) : sProp 𝕄 := (xM.view.loc (c : Thread nD τ)) ↦[Finset.univ]{fullShare} X c

/-- The share of the weights that slot `σ`'s loads read with. -/
def wShare (σ : Fin 2) : PosShare TreeShare := if σ = 0 then fullShare.left else fullShare.right

/-- The weights, at that share. -/
def wPts (c : Dev nD) (σ : Fin 2) : sProp 𝕄 := (wM.view.loc (c : Thread nD τ)) ↦[Finset.univ]{wShare σ} W c

/-- Slot `σ` of the loaded weights at contents `f`. -/
def wbPts (c : Dev nD) (σ : Fin 2) (f : Buf (Elt F) ((wbSlot σ).view.loc (c : Thread nD τ))) : sProp 𝕄 :=
  (wbSlot σ).view.loc (c : Thread nD τ) ↦[(wbSlot σ).view.set]{fullShare} f
/-- Slot `σ` of the loaded weights, holding `v`. -/
def wbHas (c : Dev nD) (σ : Fin 2) (v : Vec F S4096x256 .f32) : sProp 𝕄 :=
  iprop(∃ f, ⌜(wbSlot σ).view.read (Elt F) f = v⌝ ∗ wbPts c σ f)

/-- Slot `σ` of the products at contents `f`. -/
def ysPts (c : Dev nD) (σ : Fin 2) (f : Buf (Elt F) ((ysSlot σ).view.loc (c : Thread nD τ))) : sProp 𝕄 :=
  (ysSlot σ).view.loc (c : Thread nD τ) ↦[(ysSlot σ).view.set]{fullShare} f
/-- Slot `σ` of the products, holding `v`. -/
def ysHas (c : Dev nD) (σ : Fin 2) (v : Vec F S128x256 .bf16) : sProp 𝕄 :=
  iprop(∃ f, ⌜(ysSlot σ).view.read (Elt F) f = v⌝ ∗ ysPts c σ f)

/-- Slot `σ` with no load under way. -/
def loadIdle (c : Dev nD) (σ : Fin 2) : sProp 𝕄 :=
  iprop(semVal ((c : Thread nD τ), .dma (loadS σ)) 0 ∗ (∃ f, wbPts c σ f) ∗ wPts W c σ)
/-- What the load of step `r` into slot `σ` delivers. -/
def loaded (c : Dev nD) (σ : Fin 2) (r : Fin 32) : sProp 𝕄 :=
  iprop(wbHas c σ (wcol (W c) (peer c r.val)) ∗ ((wCols c r).view.loc (c : Thread nD τ) ↦[(wCols c r).view.set]{wShare σ} W c))
/-- Slot `σ` with the load of step `r` under way. -/
def loadBusy (c : Dev nD) (σ : Fin 2) (r : Fin 32) : sProp 𝕄 :=
  iprop(Transfers.Flight EC (c : Thread nD τ) (.dma (loadS σ)) () NW (loaded W c σ r)
    ∗ ((wM.view.loc (c : Thread nD τ)) ↦[Finset.univ \ (wCols c r).view.set]{wShare σ} W c))

/-- Slot `σ` of the products with no transfer under way. -/
def sendIdle (c : Dev nD) (σ : Fin 2) : sProp 𝕄 :=
  iprop(semVal ((c : Thread nD τ), .dma (sendS σ)) 0 ∗ ∃ f, ysPts c σ f)
/-- Slot `σ` of the products with a transfer under way. -/
def sendBusy (c : Dev nD) (σ : Fin 2) : sProp 𝕄 :=
  Transfers.Flight EC (c : Thread nD τ) (.dma (sendS σ)) () N (iprop(∃ f, ysPts (F := F) c σ f) : sProp 𝕄)

/-! ## Loads of weights -/

/-- What the load leaves, as the columns it is of. -/
theorem load_delivers (c : Dev nD) (σ : Fin 2) (r : Fin 32) (f : Buf (Elt F) ((wbSlot σ).view.loc (c : Thread nD τ))) :
    iprop(((wbSlot σ).view.loc (c : Thread nD τ) ↦[(wbSlot σ).view.set]{fullShare}
          (wbSlot σ).view.write (Elt F) f (ReadAs.same.apply ((wCols c r).view.read (Elt F) (W c))) Finset.univ)
        ∗ ((wCols c r).view.loc (c : Thread nD τ) ↦[(wCols c r).view.set]{wShare σ} W c)) ⊢ loaded W c σ r := by
  unfold loaded wbHas wbPts
  iintro ⟨Hb, Hw⟩
  isplitl [Hb]
  · iexists _
    isplitr [Hb]
    rotate_left
    · iexact Hb
    · ipureintro
      exact (View.read_write_univ _ _).trans (read_wCols c r (W c))
  · iexact Hw

theorem wp_startLoad (c : Dev nD) (i : ℕ) (k : PUnit → BProg F) (Kt : PUnit → sProp 𝕄) :
    loadIdle W c (slotOf i) ⊢ iprop((loadBusy W c (slotOf i) (stepIx i) -∗ WP c (k ⟨⟩) Kt) -∗ WP c (startLoad c i >>= k) Kt) := by
  unfold startLoad
  simp only [Prog.lift, Prog.bind_op, Prog.bind_ret]
  unfold loadIdle wPts
  iintro ⟨Hs, ⟨%f, Hb⟩, Hw⟩ Hk
  ihave Hw' := (pointsTo_split_subset (Finset.subset_univ ((wCols c (stepIx i)).view.set))).1 $$ Hw
  icases Hw' with ⟨Hw, Hrest⟩
  unfold wbPts
  iapply (Transfers.wp_dmaLocal EC 𝒱₀ (c : Thread nD τ) none (src := wCols c (stepIx i)) (dst := wbSlot (slotOf i)) (fs := W c) (fd := f) () NW rfl NW_pos
    (Finset.Subset.refl _)) $$ [Hs Hb Hw]
  · isplitl [Hw]; · iexact Hw
    isplitl [Hb]; · iexact Hb
    iexact Hs
  iintro HF
  iapply Hk
  unfold loadBusy
  isplitl [HF]
  · iapply (Transfers.Flight_mono EC (c : Thread nD τ) (load_delivers W c (slotOf i) (stepIx i) f)) $$ HF
  · iexact Hrest

/-- Waiting for the load of step `i`: the slot holds the columns, and the weights are whole again. -/
theorem wp_waitLoad (c : Dev nD) (i s : ℕ) (k : PUnit → BProg F) (Kt : PUnit → sProp 𝕄) :
    iprop(loadBusy W c (slotOf i) (stepIx i) ∗ owing c (Orecv c s) ∗ levAts L lv)
      ⊢ iprop((semVal ((c : Thread nD τ), .dma (loadS (slotOf i))) 0 ∗ wbHas c (slotOf i) (wcol (W c) (peer c (stepIx i).val))
            ∗ wPts W c (slotOf i) ∗ owing c (Orecv c s) -∗ WP c (k ⟨⟩) Kt) -∗ WP c (waitLoad c i >>= k) Kt) := by
  unfold waitLoad
  simp only [Prog.lift, Prog.bind_op, Prog.bind_ret]
  unfold loadBusy owing
  iintro ⟨⟨HF, Hrest⟩, ⟨%Ws, HO⟩, #Hlev⟩ Hk
  iapply (Transfers.wp_waitLocalO EC 𝒱₀ (c : Thread nD τ) none (srcw := wCols c (stepIx i)) (dstw := wbSlot (slotOf i)) () (N := NW) rfl) $$ [HF HO]
  · isplitl [HF]; · iexact HF
    isplitl [HO]; · iexact HO
    iapply (mayWait_steps c (role_load (slotOf i)) s); iexact Hlev
  iintro ⟨HD, Hs, HO⟩
  unfold loaded
  icases HD with ⟨Hb, Hw⟩
  iapply Hk
  isplitl [Hs]; · iexact Hs
  isplitl [Hb]; · iexact Hb
  isplitl [Hw Hrest]
  · unfold wPts
    iapply (pointsTo_split_subset (Finset.subset_univ ((wCols c (stepIx i)).view.set))).2
    isplitl [Hw] <;> iassumption
  · iexists _; iexact HO

/-! ## The product -/

theorem wb_access (σ : Fin 2) :
    wbM.view.setOn (Rect.unit (s := S2x4096x256) ![σ.val, 0, 0] S1x4096x256.size (inb_wb σ)).toLoadRect.set ⊆ (wbSlot σ).view.set :=
  ((View.set_reshape _ _).trans (View.set_slice _ _)).symm.subset
theorem ys_access (σ : Fin 2) : ysM.view.setOn (ysRect σ).toLoadRect.set ⊆ (ysSlot σ).view.set :=
  ((View.set_reshape _ _).trans (View.set_slice _ _)).symm.subset
theorem ys_stored (σ : Fin 2) : (ysM.access (ysRect σ)).setOn Finset.univ ⊆ (ysSlot σ).view.set :=
  (View.set_reshape _ _).symm.subset

/-- The product of the loaded slot with the device's rows of x, the slot of the products handed over by `w`. -/
theorem wp_product (c : Dev nD) (σ : Fin 2) (v : Vec F S4096x256 .f32) (w : BProg F) (P R : sProp 𝕄)
    (hw : ∀ (k : PUnit → BProg F) (Kt : PUnit → sProp 𝕄),
      P ⊢ iprop((R ∗ (∃ f, ysPts c σ f) -∗ WP c (k ⟨⟩) Kt) -∗ WP c (w >>= k) Kt))
    (k : PUnit → BProg F) (Kt : PUnit → sProp 𝕄) :
    iprop(wbHas c σ v ∗ xPts X c ∗ P)
      ⊢ iprop(((∃ f, wbPts c σ f) ∗ xPts X c ∗ R ∗ ysHas c σ (mmul v (X c)) -∗ WP c (k ⟨⟩) Kt)
        -∗ WP c (product w σ >>= k) Kt) := by
  unfold product
  simp only [Prog.lift, Prog.bind_op, Prog.bind_ret, Prog.bind_assoc]
  unfold wbHas wbPts xPts
  iintro ⟨⟨%fw, %hfw, Hb⟩, Hx, HP⟩ Hk
  iapply (wp_load 𝒱₀ (c : Thread nD τ) none Set.univ (m := wbM) (S := (wbSlot σ).view.set)
    (wb_access σ)) $$ Hb
  iintro Hb
  iapply (wp_load 𝒱₀ (c : Thread nD τ) none Set.univ (m := xM) (S := Finset.univ) (Finset.subset_univ _)) $$ Hx
  iintro Hx
  iapply (hw _ Kt) $$ HP
  iintro ⟨HR, ⟨%fy, Hy⟩⟩
  unfold ysPts
  iapply (wp_load 𝒱₀ (c : Thread nD τ) none Set.univ (m := ysM) (S := (ysSlot σ).view.set)
    (ys_access σ)) $$ Hy
  iintro Hy
  iapply (wp_store 𝒱₀ (c : Thread nD τ) none Set.univ (m := ysM) (r := ysRect σ) (Mk := Finset.univ) (S := (ysSlot σ).view.set)
    (ys_stored σ)) $$ Hy
  iintro Hy
  iapply Hk
  isplitl [Hb]; · iexists fw; iexact Hb
  isplitl [Hx]; · iexact Hx
  isplitl [HR]; · iexact HR
  unfold ysHas ysPts
  iexists _
  isplitr [Hy]
  rotate_left
  · iexact Hy
  · ipureintro
    exact (read_stored σ fw fy v hfw _).trans (congrArg (mmul v) (Memref.readAt_unit_zero (Elt F) cc0_stg0_0 (by decide) _ (X c)))

/-! ## Transfers -/

/-- A block written into its row of a landing buffer is what that row is to hold. -/
theorem land_row (c p : Dev nD) (fs : Buf (Elt F) ((ysSlot (0 : Fin 2)).view.loc (c : Thread nD τ))) (σ : Fin 2)
    (fd : Buf (Elt F) ((cmRow c).view.loc (p : Thread nD τ))) (h : (ysSlot σ).view.read (Elt F) fs = block X W c p) :
    ((cmRow c).view.loc (p : Thread nD τ) ↦[(cmRow c).view.set]{fullShare}
        (cmRow c).view.write (Elt F) fd ((ysSlot σ).view.read (Elt F) fs) Finset.univ : sProp 𝕄) ⊢ rowPts p c (landed X W p) := by
  rw [h]
  unfold rowPts
  exact Entails.of_eq (pointsTo_congr (write_row_agrees X W c p fd))

/-- The transfer of a product to device `p`: the other device's row of this one is owed to `p`'s receive cell no more. -/
theorem wp_startSend (c : Dev nD) (i : ℕ) (hi : i < 31) (σ : Fin 2) (n : Dev nD) (hn : n = peer c i) (κ : ℕ)
    (k : PUnit → BProg F) (Kt : PUnit → sProp 𝕄) :
    iprop(cellInv ER (sched X W) κ (recvCell (peer c i) c) ∗ reached ER (recvCell (peer c i) c) 0
        ∗ semVal ((c : Thread nD τ), .dma (sendS σ)) 0 ∗ ysHas c σ (block X W c (peer c i)) ∗ (∃ f, rowPts (peer c i) c f)
        ∗ dutyTok ER (recvCell (peer c i) c) 0 c ∗ owing c (Orecv c i))
      ⊢ iprop((sendBusy c σ ∗ owing c (Orecv c (i + 1)) -∗ WP c (k ⟨⟩) Kt) -∗ WP c (startSend c n σ >>= k) Kt) := by
  subst hn
  have hne : c ≠ peer c i := (peer_ne c hi).symm
  have hland := fun fs fd hfs => Rounds.land_credit ER (sched X W) (κ := κ) (g := recvCell (peer c i) c) (r := 0) (d := c)
      (by rw [duties_recv X W (peer c i) c hne]; exact Finset.mem_singleton_self _)
      ((land_row X W c (peer c i) fs σ fd hfs).trans (Entails.of_eq (payload_recv X W (peer c i) c c).symm))
  rw [amount_recv X W (peer c i) c c] at hland
  unfold startSend
  simp only [Prog.lift, Prog.bind_op, Prog.bind_ret]
  unfold ysHas ysPts rowPts owing
  iintro ⟨#HI, #Hr, Hs, ⟨%fs, %hfs, Hy⟩, ⟨%fd, Hd⟩, Ht, ⟨%Ws, HO⟩⟩ Hk
  imod (Transfers.flight_alloc EC N_pos ((ysSlot σ).view.loc (c : Thread nD τ) ↦[(ysSlot σ).view.set]{fullShare} fs : sProp 𝕄)
    (g := ((c : Thread nD τ), .dma (sendS σ)))) $$ Hs with ⟨%γ, %δ, %κ', #Hinv, Hγ, Hδ⟩
  iapply (wp_enqueueDma_remote_pointsTo 𝒱₀ (c : Thread nD τ) none Set.univ (src := ysSlot σ) (dst := cmRow c) (c' := Dev.tc (peer c i))
    (sS := .dma (sendS σ)) (sem := .dma (recvS c)) (fs := fs) (fd := fd) () () (Orecv c (i + 1)) N rfl (Orecv_step c hi))
    $$ [Hy Hd HO] [Hγ] [Ht]
  · isplitl [Hy]; · iexact Hy
    isplitl [Hd]; · iexact Hd
    iexact HO
  · iapply (Transfers.flight_creditUpdate EC (δ := δ))
    isplitr; · iexact Hinv
    iexact Hγ
  · iapply (hland fs fd hfs)
    isplitr; · iexact HI
    isplitl [Ht]; · iexact Ht
    iexact Hr
  iintro ⟨Hc, HO⟩
  iapply Hk
  isplitr [HO]
  · unfold sendBusy ysPts
    iapply (Transfers.Flight_mono EC (c : Thread nD τ) (D := ((ysSlot σ).view.loc (c : Thread nD τ) ↦[(ysSlot σ).view.set]{fullShare} fs : sProp 𝕄))
      (by iintro H; iexists fs; iexact H))
    iapply (Transfers.flight_intro EC (c : Thread nD τ) (κ := κ'))
    isplitr; · iexact Hinv
    isplitl [Hδ] <;> iassumption
  · iexists _; iexact HO

/-- Waiting for the transfer out of a slot of the products: the slot is free again. -/
theorem wp_waitSend (c : Dev nD) (σ : Fin 2) (s : ℕ) (k : PUnit → BProg F) (Kt : PUnit → sProp 𝕄) :
    iprop(sendBusy c σ ∗ owing c (Orecv c s) ∗ levAts L lv)
      ⊢ iprop(((semVal ((c : Thread nD τ), .dma (sendS σ)) 0 ∗ owing c (Orecv c s)) ∗ (∃ f, ysPts c σ f) -∗ WP c (k ⟨⟩) Kt)
        -∗ WP c (waitSend c σ >>= k) Kt) := by
  unfold waitSend
  simp only [Prog.lift, Prog.bind_op, Prog.bind_ret]
  unfold sendBusy owing
  iintro ⟨HF, ⟨%Ws, HO⟩, #Hlev⟩ Hk
  iapply (Transfers.wp_waitLocalO EC 𝒱₀ (c : Thread nD τ) none (srcw := cmRow c) (dstw := ysSlot σ) () (N := N) rfl) $$ [HF HO]
  · isplitl [HF]; · iexact HF
    isplitl [HO]; · iexact HO
    iapply (mayWait_steps c (role_send σ) s); iexact Hlev
  iintro ⟨HD, Hs, HO⟩
  iapply Hk
  isplitr [HD]
  · isplitl [Hs]; · iexact Hs
    iexists _; iexact HO
  · iexact HD

/-- The device's own block, copied into its own row. -/
theorem wp_ownCopy (c : Dev nD) (s : ℕ) (k : PUnit → BProg F) (Kt : PUnit → sProp 𝕄) :
    iprop(semVal ((c : Thread nD τ), .dma copyS) 0 ∗ ysHas c 1 (block X W c c) ∗ (∃ f, rowPts c c f) ∗ owing c (Orecv c s) ∗ levAts L lv)
      ⊢ iprop((semVal ((c : Thread nD τ), .dma copyS) 0 ∗ (∃ f, ysPts c 1 f) ∗ rowPts c c (landed X W c) ∗ owing c (Orecv c s)
          -∗ WP c (k ⟨⟩) Kt) -∗ WP c (ownCopy c >>= k) Kt) := by
  unfold ownCopy
  simp only [Prog.lift, Prog.bind_op, Prog.bind_ret]
  unfold owing ysHas ysPts
  iintro ⟨Hs, ⟨%fs, %hfs, Hy⟩, ⟨%fd, Hd⟩, ⟨%Ws, HO⟩, #Hlev⟩ Hk
  unfold rowPts
  iapply (Transfers.wp_dmaLocal EC 𝒱₀ (c : Thread nD τ) none (src := ysSlot 1) (dst := cmRow c) (fs := fs) (fd := fd) () N rfl N_pos
    (Finset.Subset.refl _)) $$ [Hs Hy Hd]
  · isplitl [Hy]; · iexact Hy
    isplitl [Hd]; · iexact Hd
    iexact Hs
  iintro HF
  iapply (Transfers.wp_waitLocalO EC 𝒱₀ (c : Thread nD τ) none (srcw := ysSlot 1) (dstw := cmRow c) () (N := N) rfl) $$ [HF HO]
  · isplitl [HF]; · iexact HF
    isplitl [HO]; · iexact HO
    iapply (mayWait_steps c role_copy s); iexact Hlev
  iintro ⟨⟨Hd, Hy⟩, Hs, HO⟩
  iapply Hk
  isplitl [Hs]; · iexact Hs
  isplitl [Hy]; · iexists fs; iexact Hy
  isplitl [Hd]
  · have hrow := land_row X W c c fs 1 fd hfs
    unfold rowPts at hrow
    iapply hrow $$ Hd
  · iexists _; iexact HO

/-! ## The cells of the exchange -/

/-- A barrier signal, with the device's own row of the receiver. -/
theorem wp_signal (c : Dev nD) (i : ℕ) (hi : i < 31) (κ : ℕ) (k : PUnit → BProg F) (Kt : PUnit → sProp 𝕄) :
    iprop(cellInv ER (sched X W) κ (barCell (peer c i)) ∗ reached ER (barCell (peer c i)) 0
        ∗ dutyTok ER (barCell (peer c i)) 0 c ∗ (∃ f, rowPts c (peer c i) f) ∗ owing c (Orecv c 0 + Obar c i))
      ⊢ iprop((owing c (Orecv c 0 + Obar c (i + 1)) -∗ WP c (k ⟨⟩) Kt) -∗ WP c (signal c i >>= k) Kt) := by
  unfold signal
  rw [barDev_eq c hi]
  simp only [semSignalWord, Prog.lift, Prog.bind_op, Prog.bind_ret]
  unfold owing
  iintro ⟨#HI, #Hr, Ht, Hd, ⟨%Ws, HO⟩⟩ Hk
  iapply (Rounds.wp_signal 𝒱₀ ER (sched X W) (c : Thread nD τ) none (dst := (peer c i : Thread nD τ)) (κ := κ)
      (d := c) (r := 0) (by rw [duties_bar]; exact Finset.mem_erase.mpr ⟨(peer_ne c hi).symm, Finset.mem_univ _⟩)
      ((amount_bar X W (peer c i) c).trans (by decide)) () (Orecv c 0 + Obar c (i + 1)) (Obar_step c hi)) $$ [HO Ht Hd]
  · isplitr; · iexact HI
    isplitl [HO]; · iexact HO
    isplitl [Ht]; · iexact Ht
    isplitl [Hd]; · rw [payload_bar]; iexact Hd
    iexact Hr
  iintro HO
  iapply Hk
  iexists _; iexact HO

/-- The barrier's wait: every other device's row of this one, and the barrier cell closed. -/
theorem wp_waitBar (c : Dev nD) (κ : ℕ) (k : PUnit → BProg F) (Kt : PUnit → sProp 𝕄) :
    iprop(cellInv ER (sched X W) κ (barCell c) ∗ cred (tallyAt (barCell c) () 31) ∗ owing c (Orecv c 0) ∗ atPos ER (barCell c) 0 ∅ 0
        ∗ levAts L lv)
      ⊢ iprop((semVal (barCell c) 0 ∗ bigSep (Finset.univ.erase c) (fun d => (iprop(∃ f, rowPts (F := F) d c f) : sProp 𝕄))
          ∗ owing c (Orecv c 0) -∗ WP c (k ⟨⟩) Kt) -∗ WP c (semWaitWord barS 31#32 >>= k) Kt) := by
  simp only [semWaitWord, Prog.lift, Prog.bind_op, Prog.bind_ret]
  unfold owing
  iintro ⟨#HI, Hc, ⟨%Ws, HO⟩, Hat, #Hlev⟩ Hk
  iapply (Rounds.wp_wait_rest_token 𝒱₀ ER (sched X W) (c : Thread nD τ) none (κ := κ)
      (wpE_semWait_eq 𝒱₀ (c : Thread nD τ) none Set.univ) (Set.mem_univ _) () (O := Orecv c 0) (W := Ws) (R := 0) (m := 0) (T := ∅)
      (by rw [expect_bar]; decide)) $$ [Hc HO Hat]
  · isplitr; · iexact HI
    isplitl [Hc]; · iexact Hc
    isplitl [HO]; · iexact HO
    isplitr; · iapply (mayWait_bar c 0); iexact Hlev
    iexact Hat
  iintro ⟨HO, Hat, -, Hpay⟩
  ihave Hp := (Entails.of_eq (rest_bar X W c)) $$ Hpay
  imod (Rounds.cell_close ER (sched X W) (Set.mem_univ κ) (fun h => h) (R := 0 + 1) (duties_later X W (barCell c))) $$ [Hat] with Hz
  · isplitr; · iexact HI
    iexact Hat
  iapply Hk
  isplitl [Hz]; · iexact Hz
  isplitl [Hp]; · iexact Hp
  iexists _; iexact HO

/-- A receive wait: the row of the device waited for has landed, and its cell is closed. -/
theorem wp_waitRecv (c : Dev nD) (i : ℕ) (hi : i < 31) (κ : ℕ) (k : PUnit → BProg F) (Kt : PUnit → sProp 𝕄) :
    iprop(cellInv ER (sched X W) κ (recvCell c (src c i)) ∗ cred (tallyAt (recvCell c (src c i)) () N) ∗ owing c 0
        ∗ atPos ER (recvCell c (src c i)) 0 ∅ 0)
      ⊢ iprop((semVal (recvCell c (src c i)) 0 ∗ rowPts c (src c i) (landed X W c) ∗ owing c 0 -∗ WP c (k ⟨⟩) Kt)
        -∗ WP c (waitRecv c i >>= k) Kt) := by
  unfold waitRecv
  rw [recvWaitS_eq]
  simp only [Nat.mod_eq_of_lt hi]
  simp only [Prog.lift, Prog.bind_op, Prog.bind_ret]
  unfold owing
  iintro ⟨#HI, Hc, ⟨%Ws, HO⟩, Hat⟩ Hk
  iapply (Rounds.wp_wait_rest_token 𝒱₀ ER (sched X W) (c : Thread nD τ) none (κ := κ)
      (wpE_waitDma2_eq 𝒱₀ (c : Thread nD τ) none Set.univ) (Set.mem_univ _) () (O := 0) (W := Ws) (R := 0) (m := 0) (T := ∅)
      (by rw [expect_recv X W c (src c i) (src_ne c hi), Nat.zero_add])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv X W c (src c i) (src_ne c hi))) $$ Hpay
  imod (Rounds.cell_close ER (sched X W) (Set.mem_univ κ) (fun h => h) (R := 0 + 1) (duties_later X W (recvCell c (src c i)))) $$ [Hat] with Hz
  · isplitr; · iexact HI
    iexact Hat
  iapply Hk
  isplitl [Hz]; · iexact Hz
  isplitl [Hp]; · iexact Hp
  iexists _; iexact HO

end Cert.AllToAll
-- ==== Proof.Loops.lean ====
/-
# The body's loops

The barrier signals, the steps and the receive waits, each by induction on how many are left, and the last step and the
result after them.
-/
module

public import proofs.«01_k».proof.Proof.Step
public import Idealize.SL.BI.BigOpNat

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x4096 .bf16) (W : Dev nD → Vec F S4096x8192 .f32)

/-! ## The cells, and sums over the other devices -/

/-- The exchange's cells: a device's barrier cell, and its receive cell for each device. -/
abbrev kcell (ck : Dev nD × Option (Dev nD)) : GSem nD τ sig := ck.2.elim (barCell ck.1) (recvCell ck.1)

variable (K : Dev nD × Option (Dev nD) → ℕ)

/-- Every cell's invariant, and that it has reached its round. -/
def records : sProp 𝕄 :=
  bigSep Finset.univ fun ck => iprop(cellInv ER (sched X W) (K ck) (kcell ck) ∗ reached ER (kcell ck) 0)

instance records_persistent : BI.Persistent (records X W K) := by unfold records; infer_instance

theorem record_bar (p : Dev nD) :
    records X W K ⊢ iprop(cellInv ER (sched X W) (K (p, none)) (barCell p) ∗ reached ER (barCell p) 0) := by
  unfold records; exact bigSep_elim (Finset.mem_univ (p, none))
theorem record_recv (p q : Dev nD) :
    records X W K ⊢ iprop(cellInv ER (sched X W) (K (p, some q)) (recvCell p q) ∗ reached ER (recvCell p q) 0) := by
  unfold records; exact bigSep_elim (Finset.mem_univ (p, some q))

/-- Over the other devices, as over the 31 sends; -/
theorem bigSep_peer (c : Dev nD) (Φ : Dev nD → sProp 𝕄) :
    bigSep (Finset.univ.erase c) Φ = bigSep (Finset.Ico 0 31) fun i => Φ (peer c i) := by
  rw [← image_peer]
  exact Finset.fold_image fun i hi j hj e => peer_injOn c (Finset.mem_Ico.mp hi).2 (Finset.mem_Ico.mp hj).2 e
/-- and as over the 31 receive waits. -/
theorem bigSep_src (c : Dev nD) (Φ : Dev nD → sProp 𝕄) :
    bigSep (Finset.univ.erase c) Φ = bigSep (Finset.Ico 0 31) fun i => Φ (src c i) := by
  rw [← image_src]
  exact Finset.fold_image fun i hi j hj e => src_injOn c (Finset.mem_Ico.mp hi).2 (Finset.mem_Ico.mp hj).2 e

/-! ## The barrier signals -/

/-- What the `i`-th signal takes. -/
def signalRes (c : Dev nD) (i : ℕ) : sProp 𝕄 :=
  iprop(dutyTok ER (barCell (peer c i)) 0 c ∗ ∃ f, rowPts (F := F) c (peer c i) f)

theorem wp_signals (c : Dev nD) (t : BProg F) (Kt : PUnit → sProp 𝕄) : ∀ (n i : ℕ), i + n = 31 →
    iprop(records X W K ∗ bigSep (Finset.Ico i 31) (signalRes c) ∗ owing c (Orecv c 0 + Obar c i))
      ⊢ iprop((owing c (Orecv c 0) -∗ WP c t Kt) -∗ WP c (loop (signal c) t n i) Kt)
  | 0, i, h => by
      obtain rfl : i = 31 := by omega
      unfold loop
      iintro ⟨-, -, HO⟩ Hk
      iapply Hk
      rw [Obar_end]
      iexact HO
  | n + 1, i, h => by
      have hi : i < 31 := by omega
      unfold loop
      rw [bigSep_Ico_succ_bot hi]
      iintro ⟨#HR, ⟨Hi, Hrest⟩, HO⟩ Hk
      ihave Hrec := (record_bar X W K (peer c i)) $$ HR
      icases Hrec with ⟨#HI, #Hr⟩
      unfold signalRes
      icases Hi with ⟨Ht, Hd⟩
      iapply (wp_signal X W c i hi (K (peer c i, none))) $$ [Ht Hd HO]
      · isplitr; · iexact HI
        isplitr; · iexact Hr
        isplitl [Ht]; · iexact Ht
        isplitl [Hd]; · iexact Hd
        iexact HO
      iintro HO
      iapply (wp_signals c t Kt n (i + 1) (by omega)) $$ [Hrest HO]
      · isplitr; · iexact HR
        isplitl [Hrest]
        · unfold signalRes; iexact Hrest
        · iexact HO
      iexact Hk

/-! ## The steps -/

/-- What the transfer of step `i` takes. -/
def sendRes (c : Dev nD) (i : ℕ) : sProp 𝕄 :=
  iprop(dutyTok ER (recvCell (peer c i) c) 0 c ∗ ∃ f, rowPts (F := F) (peer c i) c f)

/-- Before step `s`: its load under way, the other slot idle, the transfers from `s` on still to start. -/
def stepSt (c : Dev nD) (s : ℕ) : sProp 𝕄 :=
  iprop(loadBusy W c (slotOf s) (stepIx s) ∗ loadIdle W c (slotOf (s + 1)) ∗ xPts X c ∗ owing c (Orecv c s)
    ∗ bigSep (Finset.Ico s 31) (sendRes c))

theorem slotOf_two (s : ℕ) : slotOf (s + 1 + 1) = slotOf s := Fin.ext (by show (s + 1 + 1) % 2 = s % 2; omega)

/-- One step, its slot of the products in state `Q` before and `w` what frees it. -/
theorem wp_step (c : Dev nD) (i : ℕ) (hi : i < 31) (w : BProg F) (Q : sProp 𝕄)
    (hw : ∀ (k : PUnit → BProg F) (Kt : PUnit → sProp 𝕄), iprop(Q ∗ owing c (Orecv c i) ∗ levAts L lv)
      ⊢ iprop(((semVal ((c : Thread nD τ), .dma (sendS (slotOf i))) 0 ∗ owing c (Orecv c i)) ∗ (∃ f, ysPts c (slotOf i) f)
          -∗ WP c (k ⟨⟩) Kt) -∗ WP c (w >>= k) Kt))
    (k : PUnit → BProg F) (Kt : PUnit → sProp 𝕄) :
    iprop(records X W K ∗ levAts L lv ∗ stepSt X W c i ∗ Q)
      ⊢ iprop((stepSt X W c (i + 1) ∗ sendBusy c (slotOf i) -∗ WP c (k ⟨⟩) Kt)
        -∗ WP c (startLoad c (i + 1) >>= fun _ => waitLoad c i >>= fun _ => product w (slotOf i) >>= fun _ =>
            startSend c (sendDev c i) (slotOf i) >>= k) Kt) := by
  unfold stepSt
  rw [slotOf_two, bigSep_Ico_succ_bot hi]
  iintro ⟨#HR, #Hlev, ⟨HB, HI, Hx, HO, ⟨Hs, Hrest⟩⟩, HQ⟩ Hk
  iapply (wp_startLoad W c (i + 1) _ Kt) $$ HI
  iintro HB'
  iapply (wp_waitLoad W c i i _ Kt) $$ [HB HO]
  · isplitl [HB]; · iexact HB
    isplitl [HO]; · iexact HO
    iexact Hlev
  iintro ⟨HL, Hb, Hw, HO⟩
  iapply (wp_product X c (slotOf i) (wcol (W c) (peer c (stepIx i).val)) w iprop(Q ∗ owing c (Orecv c i) ∗ levAts L lv)
    iprop(semVal ((c : Thread nD τ), .dma (sendS (slotOf i))) 0 ∗ owing c (Orecv c i)) hw _ Kt) $$ [Hb Hx HQ HO]
  · isplitl [Hb]; · iexact Hb
    isplitl [Hx]; · iexact Hx
    isplitl [HQ]; · iexact HQ
    isplitl [HO]; · iexact HO
    iexact Hlev
  iintro ⟨Hb, Hx, ⟨HS, HO⟩, Hy⟩
  ihave Hrec := (record_recv X W K (peer c i) c) $$ HR
  icases Hrec with ⟨#HI, #Hr⟩
  rw [show (stepIx i).val = i from Nat.mod_eq_of_lt (by omega)]
  unfold sendRes
  icases Hs with ⟨Ht, Hd⟩
  iapply (wp_startSend X W c i hi (slotOf i) (sendDev c i) (sendDev_eq c hi) (K (peer c i, some c)) k Kt) $$ [HS Hy Hd Ht HO]
  · isplitr; · iexact HI
    isplitr; · iexact Hr
    isplitl [HS]; · iexact HS
    isplitl [Hy]; · unfold block; iexact Hy
    isplitl [Hd]; · iexact Hd
    isplitl [Ht]; · iexact Ht
    iexact HO
  iintro ⟨HF, HO⟩
  iapply Hk
  isplitr [HF]
  · isplitl [HB']; · iexact HB'
    isplitl [HL Hb Hw]
    · unfold loadIdle
      isplitl [HL]; · iexact HL
      isplitl [Hb] <;> iassumption
    isplitl [Hx]; · iexact Hx
    isplitl [HO]; · iexact HO
    iexact Hrest
  · iexact HF

/-- A step that finds its slot idle. -/
theorem wp_stepA (c : Dev nD) (i : ℕ) (hi : i < 31) (k : PUnit → BProg F) (Kt : PUnit → sProp 𝕄) :
    iprop(records X W K ∗ levAts L lv ∗ stepSt X W c i ∗ sendIdle c (slotOf i))
      ⊢ iprop((stepSt X W c (i + 1) ∗ sendBusy c (slotOf i) -∗ WP c (k ⟨⟩) Kt) -∗ WP c (stepA c i >>= k) Kt) := by
  unfold stepA
  simp only [Prog.bind_assoc]
  refine wp_step X W K c i hi (pure ⟨⟩) (sendIdle c (slotOf i)) (fun k Kt => ?_) k Kt
  simp only [Prog.pure_eq_ret, Prog.bind_ret]
  unfold sendIdle
  iintro ⟨⟨HS, Hy⟩, HO, -⟩ Hk
  iapply Hk
  isplitr [Hy]
  · isplitl [HS] <;> iassumption
  · iexact Hy

/-- A step that waits for its slot's last transfer. -/
theorem wp_stepB (c : Dev nD) (i : ℕ) (hi : i < 31) (k : PUnit → BProg F) (Kt : PUnit → sProp 𝕄) :
    iprop(records X W K ∗ levAts L lv ∗ stepSt X W c i ∗ sendBusy c (slotOf i))
      ⊢ iprop((stepSt X W c (i + 1) ∗ sendBusy c (slotOf i) -∗ WP c (k ⟨⟩) Kt) -∗ WP c (stepB c i >>= k) Kt) := by
  unfold stepB
  simp only [Prog.bind_assoc]
  exact wp_step X W K c i hi (waitSend c (slotOf i)) (sendBusy c (slotOf i)) (fun k Kt => wp_waitSend c (slotOf i) i k Kt) k Kt

/-- One of the two slots' transfers, and the other's. -/
theorem sends_focus (c : Dev nD) (σ : Fin 2) :
    (iprop(sendBusy c 0 ∗ sendBusy c 1) : sProp 𝕄)
      ⊢ iprop(sendBusy c σ ∗ (sendBusy c σ -∗ (sendBusy c 0 ∗ sendBusy c 1))) := by
  fin_cases σ
  · iintro ⟨H0, H1⟩
    isplitl [H0]; · iexact H0
    iintro H0
    isplitl [H0]; · iexact H0
    iexact H1
  · iintro ⟨H0, H1⟩
    isplitl [H1]; · iexact H1
    iintro H1
    isplitl [H0]; · iexact H0
    iexact H1

theorem wp_stepsB (c : Dev nD) (t : BProg F) (Kt : PUnit → sProp 𝕄) : ∀ (n i : ℕ), i + n = 31 →
    iprop(records X W K ∗ levAts L lv ∗ stepSt X W c i ∗ sendBusy c 0 ∗ sendBusy c 1)
      ⊢ iprop((stepSt X W c 31 ∗ sendBusy c 0 ∗ sendBusy c 1 -∗ WP c t Kt) -∗ WP c (loop (stepB c) t n i) Kt)
  | 0, i, h => by
      obtain rfl : i = 31 := by omega
      unfold loop
      iintro ⟨-, -, Hst, Hs⟩ Hk
      iapply Hk
      isplitl [Hst] <;> iassumption
  | n + 1, i, h => by
      unfold loop
      iintro ⟨#HR, #Hlev, Hst, Hs⟩ Hk
      ihave Hf := (sends_focus c (slotOf i)) $$ Hs
      icases Hf with ⟨Hs, Hback⟩
      iapply (wp_stepB X W K c i (by omega)) $$ [Hst Hs]
      · isplitr; · iexact HR
        isplitr; · iexact Hlev
        isplitl [Hst] <;> iassumption
      iintro ⟨Hst, Hs⟩
      ihave Hs := Hback $$ Hs
      iapply (wp_stepsB c t Kt n (i + 1) (by omega)) $$ [Hst Hs]
      · isplitr; · iexact HR
        isplitr; · iexact Hlev
        isplitl [Hst] <;> iassumption
      iexact Hk

/-! ## The receive waits -/

/-- What a receive wait takes, and what it leaves. -/
def recvRes (c : Dev nD) (q : Dev nD) : sProp 𝕄 :=
  iprop(cred (tallyAt (recvCell c q) () N) ∗ atPos ER (recvCell c q) 0 ∅ 0)
def recvDone (c : Dev nD) (q : Dev nD) : sProp 𝕄 :=
  iprop(semVal (recvCell c q) 0 ∗ rowPts c q (landed X W c))

theorem wp_waitRecvs (c : Dev nD) (t : BProg F) (Kt : PUnit → sProp 𝕄) : ∀ (n i : ℕ), i + n = 31 →
    iprop(records X W K ∗ bigSep (Finset.Ico i 31) (fun j => recvRes c (src c j)) ∗ owing c 0)
      ⊢ iprop((bigSep (Finset.Ico i 31) (fun j => recvDone X W c (src c j)) ∗ owing c 0 -∗ WP c t Kt)
        -∗ WP c (loop (waitRecv c) t n i) Kt)
  | 0, i, h => by
      obtain rfl : i = 31 := by omega
      unfold loop
      rw [Finset.Ico_self, bigSep_empty, bigSep_empty]
      iintro ⟨-, H, HO⟩ Hk
      iapply Hk
      isplitl [H] <;> iassumption
  | n + 1, i, h => by
      have hi : i < 31 := by omega
      unfold loop
      rw [bigSep_Ico_succ_bot hi, bigSep_Ico_succ_bot hi]
      iintro ⟨#HR, ⟨Hi, Hrest⟩, HO⟩ Hk
      ihave Hrec := (record_recv X W K c (src c i)) $$ HR
      icases Hrec with ⟨#HI, -⟩
      ihave Hi' := (show recvRes (F := F) c (src c i) ⊢ _ by unfold recvRes; exact Entails.refl _) $$ Hi
      icases Hi' with ⟨Hc, Hat⟩
      iapply (wp_waitRecv X W c i hi (K (c, some (src c i)))) $$ [Hc HO Hat]
      · isplitr; · iexact HI
        isplitl [Hc]; · iexact Hc
        isplitl [HO] <;> iassumption
      iintro ⟨Hz, Hrow, HO⟩
      iapply (wp_waitRecvs c t Kt n (i + 1) (by omega)) $$ [Hrest HO]
      · isplitr; · iexact HR
        isplitl [Hrest] <;> iassumption
      iintro ⟨Hd, HO⟩
      iapply Hk
      isplitr [HO]
      · isplitr [Hd]
        · unfold recvDone
          isplitl [Hz] <;> iassumption
        · iexact Hd
      · iexact HO

/-! ## The result -/

/-- The whole landing buffer, and the staged result. -/
def cmPts (c : Dev nD) (f : Vec F S32x128x256 .bf16) : sProp 𝕄 := (cmM.view.loc (c : Thread nD τ)) ↦[Finset.univ]{fullShare} f
def oPts (c : Dev nD) (f : Vec F S4096x256 .f32) : sProp 𝕄 := (oM.view.loc (c : Thread nD τ)) ↦[Finset.univ]{fullShare} f

theorem wp_finish (c : Dev nD) (g : Vec F S32x128x256 .bf16) (Kt : PUnit → sProp 𝕄) :
    iprop(cmPts c g ∗ ∃ f, oPts c f)
      ⊢ iprop((cmPts c g ∗ oPts c (k0_pay1 g) -∗ Kt ⟨⟩) -∗ WP c (finish (F := F)) Kt) := by
  unfold finish
  simp only [Prog.lift, Prog.bind_op, Prog.bind_ret, Prog.pure_eq_ret]
  unfold cmPts oPts
  iintro ⟨Hc, ⟨%f, Ho⟩⟩ Hk
  iapply (wp_load 𝒱₀ (c : Thread nD τ) none Set.univ (m := cmM) (S := Finset.univ) (Finset.subset_univ _)) $$ Hc
  iintro Hc
  iapply (wp_load 𝒱₀ (c : Thread nD τ) none Set.univ (m := oM) (S := Finset.univ) (Finset.subset_univ _)) $$ Ho
  iintro Ho
  iapply (wp_store 𝒱₀ (c : Thread nD τ) none Set.univ (m := oM) (r := Rect.unit (s := S4096x256) ![0, 0] S4096x256.size inb_S4096x256_S4096x256_0_0) (Mk := Finset.univ) (S := Finset.univ) (Finset.subset_univ _)) $$ Ho
  iintro Ho
  rw [wp_ret]
  imodintro
  iapply Hk
  isplitl [Hc]; · iexact Hc
  iapply (Entails.of_eq (pointsTo_congr fun i _ => congrFun
    ((Memref.write_access_unit_zero_univ (Elt F) cc0_stg1_0 (by decide) _ f _).trans
      (congrArg k0_pay1 (Memref.readAt_unit_zero (Elt F) cc0_scratch2 (by decide) _ g))) i)) $$ Ho

end Cert.AllToAll
-- ==== Proof.Body.lean ====
/-
# The body on one device

From the launch's state to the result: the buffers taken apart, the loops run, the buffers put together again.
-/
module

public import proofs.«01_k».proof.Proof.Loops

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S128x4096 .bf16) (W : Dev nD → Vec F S4096x8192 .f32)
  (K : Dev nD × Option (Dev nD) → ℕ)

/-- A device's summand, and the others'; -/
theorem bigSep_at (c : Dev nD) {Φ : Dev nD → sProp 𝕄} :
    bigSep Finset.univ Φ = iprop(Φ c ∗ bigSep (Finset.univ.erase c) Φ) := bigSep_univ_split c
/-- summands in pairs. -/
theorem bigSep_zip (s : Finset (Dev nD)) (Φ Ψ : Dev nD → sProp 𝕄) :
    bigSep s (fun q => iprop(Φ q ∗ Ψ q)) = iprop(bigSep s Φ ∗ bigSep s Ψ) := bigSep_sep s Φ Ψ

/-! ## Buffers in parts -/

/-- The loaded weights, whole; the products, whole; the weights, whole. -/
def wbAll (c : Dev nD) : sProp 𝕄 := iprop(∃ f : Vec F S2x4096x256 .f32, (wbM.view.loc (c : Thread nD τ)) ↦[Finset.univ]{fullShare} f)
def ysAll (c : Dev nD) : sProp 𝕄 := iprop(∃ f : Vec F S2x128x256 .bf16, (ysM.view.loc (c : Thread nD τ)) ↦[Finset.univ]{fullShare} f)
def wAll (c : Dev nD) : sProp 𝕄 := (wM.view.loc (c : Thread nD τ)) ↦[Finset.univ]{fullShare} W c

theorem wb_split (c : Dev nD) : wbAll (F := F) c ⊢ iprop((∃ f, wbPts c 0 f) ∗ ∃ f, wbPts c 1 f) := by
  unfold wbAll wbPts
  rw [← wbSlot_union]
  iintro ⟨%f, H⟩
  ihave H' := (pointsTo_union wbSlot_disjoint).1 $$ H
  icases H' with ⟨H0, H1⟩
  isplitl [H0]
  · iexists f; iexact H0
  · iexists f; iexact H1

theorem wb_join (c : Dev nD) : iprop((∃ f, wbPts (F := F) c 0 f) ∗ ∃ f, wbPts c 1 f) ⊢ wbAll c := by
  unfold wbAll wbPts
  rw [← wbSlot_union]
  iintro ⟨⟨%f, H0⟩, ⟨%g, H1⟩⟩
  iexists _
  iapply (pointsTo_join wbSlot_disjoint)
  isplitl [H0] <;> iassumption

theorem ys_split (c : Dev nD) : ysAll (F := F) c ⊢ iprop((∃ f, ysPts c 0 f) ∗ ∃ f, ysPts c 1 f) := by
  unfold ysAll ysPts
  rw [← ysSlot_union]
  iintro ⟨%f, H⟩
  ihave H' := (pointsTo_union ysSlot_disjoint).1 $$ H
  icases H' with ⟨H0, H1⟩
  isplitl [H0]
  · iexists f; iexact H0
  · iexists f; iexact H1

theorem ys_join (c : Dev nD) : iprop((∃ f, ysPts (F := F) c 0 f) ∗ ∃ f, ysPts c 1 f) ⊢ ysAll c := by
  unfold ysAll ysPts
  rw [← ysSlot_union]
  iintro ⟨⟨%f, H0⟩, ⟨%g, H1⟩⟩
  iexists _
  iapply (pointsTo_join ysSlot_disjoint)
  isplitl [H0] <;> iassumption

theorem w_shares (c : Dev nD) : wAll W c ⊣⊢ iprop(wPts W c 0 ∗ wPts W c 1) := by
  unfold wAll wPts
  rw [show wShare 0 = fullShare.left from if_pos rfl, show wShare 1 = fullShare.right from if_neg (by decide)]
  exact pointsTo_share (PosShare.mem_left_op_right fullShare)

/-- The landing buffer is its rows. -/
theorem cm_rows (c : Dev nD) (g : Vec F S32x128x256 .bf16) :
    cmPts c g = bigSep Finset.univ fun q => rowPts c q g := by
  unfold cmPts rowPts
  refine Eq.trans (congrArg (fun S => ((cmM.view.loc (c : Thread nD τ)) ↦[S]{fullShare} g : sProp 𝕄)) (Eq.symm ?_))
    (pointsTo_biUnion (ℓ := cmM.view.loc (c : Thread nD τ)) Finset.univ rowSet fun q _ q' _ h => row_disjoint h)
  exact Finset.eq_univ_iff_forall.mpr fun k =>
    Finset.mem_biUnion.mpr ⟨⟨(k 0).val, (k 0).isLt⟩, Finset.mem_univ _, (mem_row _ k).mpr rfl⟩

theorem row_some (c q : Dev nD) (f : Vec F S32x128x256 .bf16) : rowPts c q f ⊢ iprop(∃ f, rowPts (F := F) c q f) := by
  iintro H; iexists f; iexact H

theorem rows_some (c : Dev nD) (f : Vec F S32x128x256 .bf16) :
    bigSep (Finset.univ.erase c) (fun q => rowPts c q f) ⊢ bigSep (Finset.univ.erase c) fun q => iprop(∃ f, rowPts (F := F) c q f) :=
  bigSep_mono fun q _ => row_some c q f

theorem cm_split (c : Dev nD) :
    iprop(∃ f, cmPts (F := F) c f) ⊢ iprop((∃ f, rowPts (F := F) c c f) ∗ bigSep (Finset.univ.erase c) fun q => iprop(∃ f, rowPts (F := F) c q f)) := by
  iintro ⟨%f, H⟩
  ihave H' := (Entails.of_eq ((cm_rows c f).trans (bigSep_at c))) $$ H
  icases H' with ⟨H0, H1⟩
  isplitl [H0]; · iexists f; iexact H0
  iapply (rows_some c f) $$ H1

/-! ## The last step and what follows -/

/-- The five own semaphores that every use leaves at zero. -/
def sems0 (c : Dev nD) : sProp 𝕄 :=
  iprop(semVal ((c : Thread nD τ), .dma (loadS 0)) 0 ∗ semVal ((c : Thread nD τ), .dma (loadS 1)) 0
    ∗ semVal ((c : Thread nD τ), .dma copyS) 0
    ∗ semVal ((c : Thread nD τ), .dma (sendS 0)) 0 ∗ semVal ((c : Thread nD τ), .dma (sendS 1)) 0)

/-- What the body leaves, but for the barrier cell and the device's receive cell for itself. -/
def after (c : Dev nD) : sProp 𝕄 :=
  iprop(sems0 c ∗ wbAll c ∗ ysAll c ∗ wAll W c ∗ xPts X c ∗ cmPts c (landed X W c)
    ∗ bigSep (Finset.univ.erase c) (fun q => semVal (recvCell c q) 0) ∗ oPts c (k0_pay1 (landed X W c)) ∗ owing c 0)

theorem slot31 : slotOf 31 = 1 := by decide
theorem slot32 : slotOf (31 + 1) = 0 := by decide

set_option maxRecDepth 4000 in
theorem wp_tail (c : Dev nD) (Kt : PUnit → sProp 𝕄) :
    iprop(records X W K ∗ levAts L lv ∗ stepSt X W c 31 ∗ (sendBusy c 0 ∗ sendBusy c 1) ∗ semVal ((c : Thread nD τ), .dma copyS) 0
        ∗ (∃ f, rowPts (F := F) c c f) ∗ bigSep (Finset.univ.erase c) (fun q => recvRes c q) ∗ ∃ f, oPts c f)
      ⊢ iprop((after X W c -∗ Kt ⟨⟩) -∗ WP c (tail (F := F) c) Kt) := by
  unfold tail stepC
  simp only [Prog.bind_assoc]
  unfold stepSt
  rw [bigSep_src c (fun q => recvRes c q)]
  iintro ⟨#HR, #Hlev, ⟨HB, HI, Hx, HO, -⟩, ⟨HS0, HS1⟩, Hcp, Hrow, Hrecv, Ho⟩ Hk
  iapply (wp_waitLoad W c 31 31 _ Kt) $$ [HB HO]
  · isplitl [HB]; · iexact HB
    isplitl [HO]; · iexact HO
    iexact Hlev
  rw [slot31, slot32]
  iintro ⟨HL1, Hb, Hw1, HO⟩
  iapply (wp_product X c 1 (wcol (W c) (peer c (stepIx 31).val)) (waitSend c 1) iprop(sendBusy c 1 ∗ owing c (Orecv c 31) ∗ levAts L lv)
    iprop(semVal ((c : Thread nD τ), .dma (sendS 1)) 0 ∗ owing c (Orecv c 31)) (fun k Kt => wp_waitSend c 1 31 k Kt) _ Kt) $$ [Hb Hx HS1 HO]
  · isplitl [Hb]; · iexact Hb
    isplitl [Hx]; · iexact Hx
    isplitl [HS1]; · iexact HS1
    isplitl [HO]; · iexact HO
    iexact Hlev
  iintro ⟨Hb1, Hx, ⟨HS1, HO⟩, Hy⟩
  rw [show peer c (stepIx 31).val = c from peer_last c]
  iapply (wp_ownCopy X W c 31 _ Kt) $$ [Hcp Hy Hrow HO]
  · isplitl [Hcp]; · iexact Hcp
    isplitl [Hy]; · unfold block; iexact Hy
    isplitl [Hrow]; · iexact Hrow
    isplitl [HO]; · iexact HO
    iexact Hlev
  iintro ⟨Hcp, Hy1, Hrow, HO⟩
  iapply (wp_waitSend c 0 31 _ Kt) $$ [HS0 HO]
  · isplitl [HS0]; · iexact HS0
    isplitl [HO]; · iexact HO
    iexact Hlev
  iintro ⟨⟨HS0, HO⟩, Hy0⟩
  rw [Orecv_end]
  iapply (wp_waitRecvs X W K c finish Kt 31 0 rfl) $$ [Hrecv HO]
  · isplitr; · iexact HR
    isplitl [Hrecv] <;> iassumption
  iintro ⟨Hd, HO⟩
  ihave Hd' := (Entails.of_eq ((bigSep_src c (fun q => recvDone X W c q)).symm.trans
    ((bigSep_congr fun q _ => rfl).trans (bigSep_zip _ (fun q => semVal (recvCell c q) 0) (fun q => rowPts c q (landed X W c)))))) $$ Hd
  icases Hd' with ⟨Hz, Hrows⟩
  ihave Hcm := (Entails.of_eq ((cm_rows c (landed X W c)).trans (bigSep_at c)).symm) $$ [Hrow Hrows]
  · isplitl [Hrow] <;> iassumption
  iapply (wp_finish c (landed X W c) Kt) $$ [Hcm Ho]
  · isplitl [Hcm] <;> iassumption
  iintro ⟨Hcm, Ho⟩
  iapply Hk
  unfold loadIdle
  icases HI with ⟨HL0, Hb0, Hw0⟩
  unfold after sems0
  isplitl [HL0 HL1 Hcp HS0 HS1]
  · isplitl [HL0]; · iexact HL0
    isplitl [HL1]; · iexact HL1
    isplitl [Hcp]; · iexact Hcp
    isplitl [HS0] <;> iassumption
  isplitl [Hb0 Hb1]
  · iapply (wb_join c); isplitl [Hb0] <;> iassumption
  isplitl [Hy0 Hy1]
  · iapply (ys_join c); isplitl [Hy0] <;> iassumption
  isplitl [Hw0 Hw1]
  · iapply (w_shares W c).2; isplitl [Hw0] <;> iassumption
  isplitl [Hx]; · iexact Hx
  isplitl [Hcm]; · iexact Hcm
  isplitl [Hz]; · iexact Hz
  isplitl [Ho] <;> iassumption

/-! ## The whole body -/

/-- The exchange's state a device starts from: every cell's record, its positions in its own cells, the right to pay
    each other device's barrier cell and receive cell, and the credit of its own. -/
def ghost (c : Dev nD) : sProp 𝕄 :=
  iprop(records X W K ∗ atPos ER (barCell c) 0 ∅ 0 ∗ bigSep Finset.univ (fun q => (atPos ER (recvCell c q) 0 ∅ 0 : sProp 𝕄))
    ∗ bigSep Finset.univ (fun q => dutyTok ER (barCell q) 0 c) ∗ bigSep Finset.univ (fun q => dutyTok ER (recvCell q c) 0 c))
def credits (c : Dev nD) : sProp 𝕄 :=
  iprop(cred (tallyAt (barCell c) () 31) ∗ bigSep (Finset.univ.erase c) (fun q => cred (tallyAt (recvCell c q) () N)))

/-- Everything the body starts from, but for the staged blocks and what the core owes; -/
def before (c : Dev nD) : sProp 𝕄 :=
  iprop(ghost X W K c ∗ credits c ∗ levAts L lv ∗ sems0 c ∗ wbAll c ∗ ysAll c ∗ (∃ f, cmPts c f) ∗ wAll W c)
/-- and everything it leaves. -/
def left (c : Dev nD) : sProp 𝕄 :=
  iprop(semVal (barCell c) 0 ∗ sems0 c ∗ bigSep Finset.univ (fun q => semVal (recvCell c q) 0)
    ∗ wbAll c ∗ ysAll c ∗ (∃ f, cmPts c f) ∗ wAll W c)

set_option maxRecDepth 4000 in
theorem wp_body (c : Dev nD) (Kt : PUnit → sProp 𝕄) :
    iprop(before X W K c ∗ xPts X c ∗ (∃ f, oPts c f) ∗ owing c (O₀ c))
      ⊢ iprop((left W c ∗ xPts X c ∗ oPts c (k0_pay1 (landed X W c)) ∗ owing c 0 -∗ Kt ⟨⟩) -∗ WP c (prog (F := F)) Kt) := by
  unfold prog
  simp only [Prog.lift, Prog.bind_op, Prog.bind_ret, wp_deviceId]
  unfold before ghost credits sems0
  iintro ⟨⟨⟨#HR, HatB, HatR, HtB, HtR⟩, ⟨HcB, HcR⟩, #Hlev, ⟨HL0, HL1, Hcp, HS0, HS1⟩, Hwb, Hys, Hcm, Hw⟩, Hx, Ho, HO⟩ Hk
  ihave HatR := (Entails.of_eq (bigSep_at c)) $$ HatR
  icases HatR with ⟨HatSelf, HatR⟩
  ihave HtB := (Entails.of_eq (bigSep_at c)) $$ HtB
  icases HtB with ⟨-, HtB⟩
  ihave HtR := (Entails.of_eq (bigSep_at c)) $$ HtR
  icases HtR with ⟨-, HtR⟩
  ihave Hcm := (cm_split c) $$ Hcm
  icases Hcm with ⟨Hrow, Hrows⟩
  -- the signals
  ihave Hsig := (Entails.of_eq ((bigSep_zip (Finset.univ.erase c) (fun q => dutyTok ER (barCell q) 0 c)
    (fun q => iprop(∃ f, rowPts (F := F) c q f))).symm.trans (bigSep_peer c _))) $$ [HtB Hrows]
  · isplitl [HtB] <;> iassumption
  unfold bodyOn O₀
  iapply (wp_signals X W K c _ Kt 31 0 rfl) $$ [Hsig HO]
  · isplitr; · iexact HR
    isplitl [Hsig]; · unfold signalRes; iexact Hsig
    iexact HO
  iintro HO
  -- the barrier
  ihave Hrec := (record_bar X W K c) $$ HR
  icases Hrec with ⟨#HI, -⟩
  iapply (wp_waitBar X W c (K (c, none)) _ Kt) $$ [HcB HO HatB]
  · isplitr; · iexact HI
    isplitl [HcB]; · iexact HcB
    isplitl [HO]; · iexact HO
    isplitl [HatB]; · iexact HatB
    iexact Hlev
  iintro ⟨HzB, Hrows, HO⟩
  -- the device's receive cell for itself closes unused
  ihave Hrec := (record_recv X W K c c) $$ HR
  icases Hrec with ⟨#HI', -⟩
  imod (Rounds.cell_close ER (sched X W) (Set.mem_univ (K (c, some c))) (fun h => h) (R := 0) (duties_recv_self X W c)) $$ [HatSelf] with Hself
  · isplitr; · iexact HI'
    iexact HatSelf
  ihave Hsend := (Entails.of_eq ((bigSep_zip (Finset.univ.erase c) (fun q => dutyTok ER (recvCell q c) 0 c)
    (fun q => iprop(∃ f, rowPts (F := F) q c f))).symm.trans (bigSep_peer c _))) $$ [HtR Hrows]
  · isplitl [HtR] <;> iassumption
  ihave Hrecv := (Entails.of_eq (bigSep_zip (Finset.univ.erase c) (fun q => cred (tallyAt (recvCell c q) () N))
    (fun q => atPos ER (recvCell c q) 0 ∅ 0)).symm) $$ [HcR HatR]
  · isplitl [HcR] <;> iassumption
  ihave Hwb := (wb_split c) $$ Hwb
  icases Hwb with ⟨Hb0, Hb1⟩
  ihave Hys := (ys_split c) $$ Hys
  icases Hys with ⟨Hy0, Hy1⟩
  ihave Hw := (w_shares W c).1 $$ Hw
  icases Hw with ⟨Hw0, Hw1⟩
  -- the steps
  unfold steps
  iapply (wp_startLoad W c 0 _ Kt) $$ [HL0 Hb0 Hw0]
  · unfold loadIdle
    isplitl [HL0]; · iexact HL0
    isplitl [Hb0]; · iexact Hb0
    iexact Hw0
  iintro HB
  iapply (wp_stepA X W K c 0 (by decide) _ Kt) $$ [HB HL1 Hb1 Hw1 Hx HO Hsend HS0 Hy0]
  · isplitr; · iexact HR
    isplitr; · iexact Hlev
    isplitr [HS0 Hy0]
    · unfold stepSt loadIdle
      isplitl [HB]; · iexact HB
      isplitl [HL1 Hb1 Hw1]
      · isplitl [HL1]; · iexact HL1
        isplitl [Hb1]; · iexact Hb1
        iexact Hw1
      isplitl [Hx]; · iexact Hx
      isplitl [HO]; · iexact HO
      unfold sendRes
      iexact Hsend
    · unfold sendIdle
      isplitl [HS0]; · iexact HS0
      iexact Hy0
  iintro ⟨Hst, HS0⟩
  iapply (wp_stepA X W K c 1 (by decide) _ Kt) $$ [Hst HS1 Hy1]
  · isplitr; · iexact HR
    isplitr; · iexact Hlev
    isplitl [Hst]; · iexact Hst
    unfold sendIdle
    isplitl [HS1]; · iexact HS1
    iexact Hy1
  iintro ⟨Hst, HS1⟩
  iapply (wp_stepsB X W K c _ Kt 29 2 rfl) $$ [Hst HS0 HS1]
  · isplitr; · iexact HR
    isplitr; · iexact Hlev
    isplitl [Hst]; · iexact Hst
    isplitl [HS0]; · iexact HS0
    iexact HS1
  iintro ⟨Hst, HS⟩
  iapply (wp_tail X W K c Kt) $$ [Hst HS Hcp Hrow Hrecv Ho]
  · isplitr; · iexact HR
    isplitr; · iexact Hlev
    isplitl [Hst]; · iexact Hst
    isplitl [HS]; · iexact HS
    isplitl [Hcp]; · iexact Hcp
    isplitl [Hrow]; · iexact Hrow
    isplitl [Hrecv]; · unfold recvRes; iexact Hrecv
    iexact Ho
  unfold after
  iintro ⟨Hs, Hwb, Hys, Hw, Hx, Hcm, Hz, Ho, HO⟩
  iapply Hk
  unfold left
  isplitr [Hx Ho HO]
  · isplitl [HzB]; · iexact HzB
    isplitl [Hs]; · iexact Hs
    isplitl [Hself Hz]
    · iapply (Entails.of_eq (bigSep_at c (Φ := fun q => semVal (recvCell c q) 0)).symm)
      isplitl [Hself] <;> iassumption
    isplitl [Hwb]; · iexact Hwb
    isplitl [Hys]; · iexact Hys
    isplitl [Hcm]; · iexists _; iexact Hcm
    iexact Hw
  · isplitl [Hx]; · iexact Hx
    isplitl [Ho] <;> iassumption

end Cert.AllToAll
-- ==== Proof.Region.lean ====
/-
# The kernel's region

What a device's body is given and what it leaves, in the terms of the region that runs it: the block of x staged in, the
activated block staged out, and the protocol's state at the region's two ends.
-/
module

public import proofs.«01_k».proof.Proof.Body

@[expose] public section

noncomputable section

namespace Cert.AllToAll

open Cert.KernelIdeal Cert.KernelIdeal.Gen
open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Device `c`'s rows of x at launch; -/
def xIn (c : Dev nD) : Vec F S128x4096 .bf16 := (win0_0.blk t0_0).view.read (Elt F) (m ((c : Thread nD τ).loc main_arg0))
/-- and its weights. -/
def wIn (c : Dev nD) : Vec F S4096x8192 .f32 := m ((c : Thread nD τ).loc main_arg1)
/-- The block device `c` computes. -/
def outOf (c : Dev nD) : Vec F S4096x256 .f32 := k0_pay1 (landed (xIn m) (wIn m) c)

/-- What device `c` starts from but for its scoped buffers. -/
def start (c : Dev nD) : sProp 𝕄 :=
  iprop((∃ K, ghost (xIn m) (wIn m) K c) ∗ credits c ∗ levAts L lv ∗ sems0 c ∗ wAll (wIn m) c)
/-- The protocol's state before the body; -/
def Φ₀ (c : Dev nD) : sProp 𝕄 := iprop(start m c ∗ wbAll c ∗ ysAll c ∗ ∃ f, cmPts (F := F) c f)
/-- and after it. -/
def Φ₁ (c : Dev nD) : sProp 𝕄 := left (wIn m) c

/-- The region's data on device `c`. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => outOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () (t0_0 : Fin cfg0.N).castSucc
    ∗ (∃ d, staged c cc0_stg0_0 ((dats m 0 c).before (0 : Fin 2) t0_0 d))
    ∗ (∃ d, staged c cc0_stg1_0 ((dats m 0 c).before (1 : Fin 2) t0_0 d)))
def bodyPost (c : Dev nD) : sProp 𝕄 :=
  iprop(Φ₁ m c ∗ (dats m 0 c).owesAt () (t0_0 : Fin cfg0.N).succ ∗ staged c cc0_stg0_0 (xIn m c) ∗ staged c cc0_stg1_0 (outOf m c))

theorem sound_body (c : Dev nD) : bodyPre m c ⊢ WP c prog (fun _ => bodyPost m c) := by
  unfold bodyPre Φ₀ start
  iintro ⟨⟨⟨⟨%K, Hg⟩, Hcr, Hlev, Hs, Hw⟩, Hwb, Hys, Hcm⟩, Ho, ⟨%d0, %g0, %hg0, Hx⟩, ⟨%d1, %g1, %hg1, Hout⟩⟩
  have hx : g0 = xIn m c := by rw [hg0]; unfold Dat.before; rw [if_pos (fetch_0 t0_0)]; rfl
  subst hx
  unfold Dat.owesAt Pipeline.owesWithin
  icases Ho with ⟨%Ws, %hW, HO⟩
  rw [show (dats m 0 c).owed (t0_0 : Fin cfg0.N).castSucc = O₀ c from rfl]
  iapply (wp_body (xIn m) (wIn m) K c (fun _ => bodyPost m c)) $$ [Hg Hcr Hlev Hs Hw Hwb Hys Hcm Hx Hout HO]
  · isplitr [Hx Hout HO]
    · unfold before
      isplitl [Hg]; · iexact Hg
      isplitl [Hcr]; · iexact Hcr
      isplitl [Hlev]; · iexact Hlev
      isplitl [Hs]; · iexact Hs
      isplitl [Hwb]; · iexact Hwb
      isplitl [Hys]; · iexact Hys
      isplitl [Hcm]; · iexact Hcm
      iexact Hw
    isplitl [Hx]; · unfold xPts; iexact Hx
    isplitl [Hout]; · unfold oPts; iexists g1; iexact Hout
    unfold owing; iexists Ws; iexact HO
  unfold xPts oPts owing
  iintro ⟨Hl, Hx, Hout, ⟨%Ws', HO⟩⟩
  unfold bodyPost Φ₁ Dat.owesAt Pipeline.owesWithin
  rw [show (dats m 0 c).owed (t0_0 : Fin cfg0.N).succ = 0 from rfl]
  isplitl [Hl]; · iexact Hl
  isplitl [HO]
  · iexists Ws'
    isplitr; · ipureintro; exact fun _ _ => Or.inl trivial
    iexact HO
  isplitl [Hx]
  · iexists (xIn m c); isplitr; · (ipureintro; rfl)
    iexact Hx
  iexists (outOf m c); isplitr; · (ipureintro; rfl)
  iexact Hout

set_option maxRecDepth 65536 in
/-- The region's obligation on device `c`'s core. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre m c ⊢ WP c (cc0_body (F := F) xM (Memref.isWhole_whole _) wM (Memref.isWhole_whole _) oM (Memref.isWhole_whole _) wbM
      (Memref.isWhole_whole _) ysM (Memref.isWhole_whole _) cmM (Memref.isWhole_whole _) cc0_scratch3 cc0_scratch4 cc0_scratch5
      cc0_scratch6) (fun _ => bodyPost m c)
  exact (sound_body m c).trans (Entails.of_eq (congrArg (fun p => WP c p fun _ => bodyPost m c) body_eq.symm))

theorem share_eq (c : Dev nD) (w : Fin cfg0.W) : (dats m 0 c).share w = fullShare := by unfold Dat.share; split <;> rfl

end Cert.AllToAll
-- ==== Proof.Launch.lean ====
/-
# The launch

The protocol's state dealt to the devices at launch: every cell's record and position, each device's right to pay into
the other devices' cells, the credits that its own waits will spend.
-/
module

public import proofs.«01_k».proof.Proof.Region
public import Idealize.ShloMosaic.Lib.Pipeline.CollectiveSegs

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's own semaphores -/

/-- The five that no other device signals. -/
def locals : Fin 5 → SemLoc sig := ![.dma (loadS 0), .dma (loadS 1), .dma copyS, .dma (sendS 0), .dma (sendS 1)]
/-- Those, and the receive semaphores. -/
def osem : Fin 5 ⊕ Dev nD → SemLoc sig
  | .inl k => locals k
  | .inr q => .dma (recvS q)

theorem locals_low (k : Fin 5) : role (locals k) = none := by revert k; decide +kernel

theorem osem_inj : Function.Injective osem := by
  have h5 : Function.Injective locals := by decide +kernel
  rintro (k | q) (k' | q') h
  · exact congrArg Sum.inl (h5 h)
  · have := locals_low k
    rw [show locals k = .dma (recvS q') from h, role_recv] at this
    exact absurd this (by simp)
  · have := locals_low k'
    rw [← show SemLoc.dma (recvS q) = locals k' from h, role_recv] at this
    exact absurd this (by simp)
  · exact congrArg Sum.inr (recvS_inj (SemLoc.dma.inj h))

theorem ownSemFacts : Pipeline.OwnSemFacts cfg0.spec osem where
  isScoped := by decide +kernel
  inj := osem_inj
  disj := by decide +kernel

/-! ## Summands by kind -/

/-- Over a device's cells: the barrier's, and the receive cells'. -/
theorem bigSep_cells (Φ : Option (Dev nD) → sProp 𝕄) :
    bigSep Finset.univ Φ = iprop(Φ none ∗ bigSep Finset.univ fun q => Φ (some q)) := by
  rw [bigSep_univ_equiv ((Equiv.sumComm PUnit (Dev nD)).trans (Equiv.optionEquivSumPUnit.{0} (Dev nD)).symm) Φ, bigSep_univ_sum]
  refine congrArg (fun P : sProp 𝕄 => iprop(P ∗ bigSep Finset.univ fun q => Φ (some q))) ?_
  rw [show (Finset.univ : Finset PUnit) = {PUnit.unit} from rfl, bigSep_singleton]
  rfl

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem ownSems0_eq (c : Dev nD) : (Pipeline.ownSems0 (Ix := Unit) (Name := ℕ) (U := UU) (Lvl := ℕ) (Val := Elt F) (τ := τ) osem c : sProp 𝕄)
    = iprop(sems0 c ∗ bigSep Finset.univ fun q => semVal (recvCell c q) 0) := by
  unfold Pipeline.ownSems0 sems0
  rw [bigSep_univ_sum]
  refine congrArg (fun P : sProp 𝕄 => iprop(P ∗ bigSep Finset.univ fun q => semVal (recvCell c q) 0)) ?_
  rw [bigSep_fin5]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and the duties -/

theorem kcell_injective : Function.Injective kcell := by
  rintro ⟨c, k⟩ ⟨c', k'⟩ h
  have h1 : c = c' := by
    have := congrArg (fun g : GSem nD τ sig => g.1.1) h
    rcases k with _ | q <;> rcases k' with _ | q' <;> exact this
  subst h1
  have h2 := congrArg (fun g : GSem nD τ sig => role g.2) h
  rcases k with _ | q <;> rcases k' with _ | q'
  · rfl
  · have h3 : role (.reg barS) = role (.dma (recvS q')) := h2
    rw [role_bar, role_recv] at h3
    exact absurd h3 (by simp)
  · have h3 : role (.dma (recvS q)) = role (.reg barS) := h2
    rw [role_bar, role_recv] at h3
    exact absurd h3 (by simp)
  · have h3 : role (.dma (recvS q)) = role (.dma (recvS q')) := h2
    rw [role_recv, role_recv] at h3
    rw [Option.some.inj h3]
def allCells : Finset (GSem nD τ sig) := Finset.univ.map ⟨kcell, kcell_injective⟩

/-- The payments device `x.1` makes: a unit into each barrier cell, a block into its receive cell on each device. -/
abbrev dutyOf (x : Dev nD × (Dev nD ⊕ Dev nD)) : GSem nD τ sig × ℕ × Dev nD :=
  (x.2.elim (fun q => kcell (q, none)) (fun q => kcell (q, some x.1)), 0, x.1)
theorem dutyOf_injective : Function.Injective dutyOf := by
  rintro ⟨c, k⟩ ⟨c', k'⟩ h
  have h1 : c = c' := congrArg (fun x : GSem nD τ sig × ℕ × Dev nD => x.2.2) h
  subst h1
  have h2 := congrArg (fun x : GSem nD τ sig × ℕ × Dev nD => x.1) h
  rcases k with q | q <;> rcases k' with q' | q'
  · rw [(Prod.mk.inj (kcell_injective (show kcell (q, none) = kcell (q', none) from h2))).1]
  · exact absurd (Prod.mk.inj (kcell_injective (show kcell (q, none) = kcell (q', some c) from h2))).2 (by simp)
  · exact absurd (Prod.mk.inj (kcell_injective (show kcell (q, some c) = kcell (q', none) from h2))).2 (by simp)
  · rw [(Prod.mk.inj (kcell_injective (show kcell (q, some c) = kcell (q', some c) from h2))).1]
def allDuties : Finset (GSem nD τ sig × ℕ × Dev nD) := Finset.univ.map ⟨dutyOf, dutyOf_injective⟩

/-- The launch's element. -/
def u₀ : UU :=
  (Rounds.initOf (Pipeline.cells cfgs cellOf_inj) (Pipeline.launchToks cfgs cellOf_inj), (Rounds.initOf allCells allDuties, (1 : Counters)))

variable (X : Dev nD → Vec F S128x4096 .bf16) (W : Dev nD → Vec F S4096x8192 .f32)

/-- The payments' tokens, on the device that pays. -/
def duties (c : Dev nD) : sProp 𝕄 :=
  iprop((bigSep Finset.univ fun q => dutyTok ER (barCell q) 0 c) ∗ bigSep Finset.univ fun q => dutyTok ER (recvCell q c) 0 c)
/-- A device's positions in its own cells, with that each has reached its round. -/
def places (c : Dev nD) : sProp 𝕄 :=
  bigSep Finset.univ fun k : Option (Dev nD) => iprop(atPos ER (kcell (c, k)) 0 ∅ 0 ∗ reached ER (kcell (c, k)) 0)

/-- What the launch's element deals device `c`. -/
def G (c : Dev nD) : sProp 𝕄 :=
  iprop((bigSep Finset.univ fun k : Option (Dev nD) => roundState ER (sched X W) (kcell (c, k)) 0) ∗ places c ∗ duties c)
/-- What becomes of it. -/
def G' (c : Dev nD) : sProp 𝕄 := iprop((∃ K, ghost X W K c) ∗ sems0 c)

theorem over_cells (Φ : GSem nD τ sig → sProp 𝕄) :
    bigSep allCells Φ = bigSep Finset.univ fun c : Dev nD => bigSep Finset.univ fun k : Option (Dev nD) => Φ (kcell (c, k)) := by
  unfold allCells; rw [bigSep_map, bigSep_univ_prod]; rfl
theorem over_duties : bigSep allDuties (fun x => (dutyTok ER x.1 x.2.1 x.2.2 : sProp 𝕄)) = bigSep Finset.univ fun c : Dev nD => duties c := by
  unfold allDuties; rw [bigSep_map, bigSep_univ_prod]
  refine bigSep_congr fun c _ => ?_
  unfold duties
  rw [bigSep_univ_sum]
  rfl

theorem fund_cells : BI.own (ER (Rounds.initOf allCells allDuties)) ⊢ (|==> bigSep Finset.univ (G X W) : sProp 𝕄) := by
  iintro HX
  imod (Rounds.fund ER (sched X W) allCells allDuties) $$ HX with ⟨Hst, Hr, Hat, Htok⟩
  imodintro
  ihave Hst' := (Entails.of_eq (over_cells fun g => roundState ER (sched X W) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_duties (F := F))) $$ Htok
  unfold G places; simp only [bigSep_sep']
  isplitl [Hst']; · iexact Hst'
  isplitl [Hat' Hr']
  · isplitl [Hat'] <;> iassumption
  iexact Htok'

/-! ## Every cell given its invariant -/

theorem alloc_cells (c : Dev nD) :
    iprop((bigSep Finset.univ fun k : Option (Dev nD) => semVal (kcell (c, k)) 0) ∗ bigSep Finset.univ fun k : Option (Dev nD) => roundState ER (sched X W) (kcell (c, k)) 0)
      ⊢ (|={Set.univ}=> bigSep Finset.univ fun k : Option (Dev nD) => iprop(∃ κ : ℕ, cellInv ER (sched X W) κ (kcell (c, k))) : sProp 𝕄) := by
  rw [← bigSep_sep']
  exact (bigSep_mono fun k _ => (Rounds.body_intro ER (sched X W) (kcell (c, k))).trans inv_alloc).trans (bigSep_fupd _ _)

/-- Device `c`'s cells with their invariants, and the rest of what it holds. -/
def opened (c : Dev nD) : sProp 𝕄 :=
  iprop((bigSep Finset.univ fun k : Option (Dev nD) => iprop(∃ κ : ℕ, cellInv ER (sched X W) κ (kcell (c, k)))) ∗ places c ∗ duties c ∗ sems0 c)

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> opened X W c := by
  unfold G opened
  rw [ownSems0_eq, unscopedSems0_eq]
  iintro ⟨⟨Hs, Hrecv⟩, Hbar, Hst, Hat, Htok⟩
  ihave Hv := (Entails.of_eq (bigSep_cells (F := F) (fun k => semVal (kcell (c, k)) 0)).symm) $$ [Hbar Hrecv]
  · isplitl [Hbar]; · iexact Hbar
    iexact Hrecv
  imod (alloc_cells X W c) $$ [Hv Hst] with Hinv
  · isplitl [Hv] <;> iassumption
  imodintro
  isplitl [Hinv]; · iexact Hinv
  isplitl [Hat]; · iexact Hat
  isplitl [Htok]; · iexact Htok
  iexact Hs

/-- A device's positions. -/
def positions (c : Dev nD) : sProp 𝕄 := bigSep Finset.univ fun k : Option (Dev nD) => atPos ER (kcell (c, k)) 0 ∅ 0

theorem ghost_intro (K : Dev nD × Option (Dev nD) → ℕ) (c : Dev nD) :
    iprop(records X W K ∗ positions c ∗ duties c ∗ sems0 c) ⊢ G' X W c := by
  unfold positions duties G' ghost
  rw [bigSep_cells]
  iintro ⟨#HR, ⟨HaB, HaR⟩, ⟨HtB, HtR⟩, Hs⟩
  isplitr [Hs]
  · iexists K
    isplitr; · iexact HR
    isplitl [HaB]; · iexact HaB
    isplitl [HaR]; · iexact HaR
    isplitl [HtB]; · iexact HtB
    iexact HtR
  · iexact Hs

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup : bigSep Finset.univ (opened X W) ⊢ bigSep Finset.univ (G' X W) := by
  unfold opened places
  rw [bigSep_sep', bigSep_sep',
    bigSep_congr (s := Finset.univ) (fun (c : Dev nD) _ => bigSep_sep' Finset.univ (fun k : Option (Dev nD) => (atPos ER (kcell (c, k)) 0 ∅ 0 : sProp 𝕄))
      (fun k => reached ER (kcell (c, k)) 0)),
    bigSep_sep', ← bigSep_univ_prod (fun ck : Dev nD × Option (Dev nD) => iprop(∃ κ : ℕ, cellInv ER (sched X W) κ (kcell ck))),
    ← bigSep_univ_prod (fun ck : Dev nD × Option (Dev nD) => (reached ER (kcell ck) 0 : sProp 𝕄))]
  iintro ⟨HI, ⟨Hat, #HR⟩, Hrest⟩
  ihave HK := (BI.bigSep_exists_pi Finset.univ (fun (ck : Dev nD × Option (Dev nD)) (κ : ℕ) => (cellInv ER (sched X W) κ (kcell ck) : sProp 𝕄))) $$ HI
  icases HK with ⟨%K, #HI⟩
  iapply (with_records (R := records X W K) fun c => ghost_intro X W K c)
  isplitr
  · unfold records
    iapply (Entails.of_eq (bigSep_sep' Finset.univ (fun ck : Dev nD × Option (Dev nD) => (cellInv ER (sched X W) (K ck) (kcell ck) : sProp 𝕄))
      (fun ck => reached ER (kcell ck) 0)).symm)
    isplitl; · iexact HI
    iexact HR
  · iapply (Entails.of_eq (bigSep_sep' Finset.univ (positions (F := F)) (fun c => iprop(duties c ∗ sems0 c))).symm)
    isplitl [Hat]; · unfold positions; iexact Hat
    iexact Hrest

/-- The global step. -/
theorem glob : (bigSep Finset.univ fun c => iprop(Pipeline.ownSems0 (Ix := Unit) (Name := ℕ) (U := UU) (Lvl := ℕ) (Val := Elt F) (τ := τ) osem c
      ∗ unscopedSems0 c ∗ G X W c) : sProp 𝕄) ⊢ |={Set.univ}=> bigSep Finset.univ (G' X W) :=
  ((bigSep_mono fun c _ => core_alloc X W c).trans (bigSep_fupd _ _)).trans (BI.fupd_mono (regroup X W))

/-! ## The launch's credits -/

theorem sum_at (d : Dev nD) (f : Dev nD → GSem nD τ sig) (n : ℕ) (g : GSem nD τ sig) :
    (∑ q ∈ Finset.univ.erase d, tallyAt (f q) () n : CellTallies nD τ sig Unit) g () = ∑ q ∈ Finset.univ.erase d, if g = f q then n else 0 := by
  rw [Finset.sum_apply, Finsupp.finset_sum_apply]
  refine Finset.sum_congr rfl fun q _ => ?_
  rw [tallyAt_apply]
  by_cases h : g = f q
  · rw [if_pos ⟨h, rfl⟩, if_pos h]
  · rw [if_neg fun h' => h h'.1, if_neg h]

theorem Orecv_all (d : Dev nD) : Orecv d 0 = ∑ q ∈ Finset.univ.erase d, tallyAt (recvCell q d) () N := by
  unfold Orecv
  rw [← image_peer d, Finset.sum_image fun i hi j hj e => peer_injOn d (Finset.mem_Ico.mp hi).2 (Finset.mem_Ico.mp hj).2 e]
theorem Obar_all (d : Dev nD) : Obar d 0 = ∑ q ∈ Finset.univ.erase d, tallyAt (barCell q) () 1 := by
  unfold Obar
  rw [← image_peer d, Finset.sum_image fun i hi j hj e => peer_injOn d (Finset.mem_Ico.mp hi).2 (Finset.mem_Ico.mp hj).2 e]

theorem cell_bar {c q : Dev nD} : barCell c = barCell q ↔ c = q :=
  ⟨fun h => (Prod.mk.inj (kcell_injective (a₁ := (c, none)) (a₂ := (q, none)) h)).1, fun h => h ▸ rfl⟩
theorem cell_recv {c c' q q' : Dev nD} : recvCell c q = recvCell c' q' ↔ c = c' ∧ q = q' :=
  ⟨fun h => by
    have h' := Prod.mk.inj (kcell_injective (a₁ := (c, some q)) (a₂ := (c', some q')) h)
    exact ⟨h'.1, Option.some.inj h'.2⟩, fun h => h.1 ▸ h.2 ▸ rfl⟩
theorem cell_ne (c q p : Dev nD) : barCell c ≠ recvCell q p := fun h =>
  absurd (Prod.mk.inj (kcell_injective (a₁ := (c, none)) (a₂ := (q, some p)) h)).2 (by simp)

/-- Every other device owes a device's barrier cell a unit; -/
theorem owed_bar (d c : Dev nD) : O₀ d (barCell c) () = if d = c then 0 else 1 := by
  unfold O₀
  rw [Pi.add_apply, Finsupp.add_apply, Orecv_all, Obar_all, sum_at, sum_at,
    Finset.sum_eq_zero fun q _ => if_neg (cell_ne c q d), Nat.zero_add]
  by_cases h : d = c
  · rw [if_pos h]
    exact Finset.sum_eq_zero fun q hq => if_neg fun e => Finset.ne_of_mem_erase hq ((cell_bar.mp e).symm.trans h.symm)
  · rw [if_neg h, Finset.sum_eq_single_of_mem c (Finset.mem_erase.mpr ⟨fun e => h e.symm, Finset.mem_univ _⟩)
      fun q _ hq => if_neg fun e => hq (cell_bar.mp e).symm, if_pos rfl]
/-- and the device a receive cell is for owes it a block. -/
theorem owed_recv (d c q : Dev nD) (hq : q ≠ c) : O₀ d (recvCell c q) () = if d = q then N else 0 := by
  unfold O₀
  rw [Pi.add_apply, Finsupp.add_apply, Orecv_all, Obar_all, sum_at, sum_at,
    Finset.sum_eq_zero (f := fun q' => if recvCell c q = barCell q' then 1 else 0) fun q' _ => if_neg fun e => cell_ne q' c q e.symm, Nat.add_zero]
  by_cases h : d = q
  · subst h
    rw [if_pos rfl, Finset.sum_eq_single_of_mem c (Finset.mem_erase.mpr ⟨fun e => hq e.symm, Finset.mem_univ _⟩)
      fun q' _ hq' => if_neg fun e => hq' (cell_recv.mp e).1.symm, if_pos rfl]
  · rw [if_neg h]
    exact Finset.sum_eq_zero fun q' _ => if_neg fun e => h (cell_recv.mp e).2.symm

theorem others (c : Dev nD) : (∑ d : Dev nD, if d = c then 0 else 1) = 31 := by revert c; decide +kernel

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, others]
theorem launch_recv (c q : Dev nD) (hq : q ≠ c) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q hq,
    Finset.sum_ite_eq' Finset.univ q fun _ => N, if_pos (Finset.mem_univ _)]

theorem creds_recv (c : Dev nD) :
    (bigSep (Finset.univ.erase (SemLoc.reg barS)) fun sm => cred (tallyOn ((c : Thread nD τ), sm) (launchCredit (Pipeline.owing O₀) 0 ((c : Thread nD τ), sm))) : sProp 𝕄)
      ⊢ bigSep (Finset.univ.erase c) fun q => cred (tallyAt (recvCell c q) () N) := by
  refine (bigSep_subset (t := (Finset.univ.erase c).map ⟨fun q => SemLoc.dma (recvS q), fun q q' h => recvS_inj (SemLoc.dma.inj h)⟩) ?_).trans ?_
  · intro sm hsm
    obtain ⟨q, -, rfl⟩ := Finset.mem_map.mp hsm
    exact Finset.mem_erase.mpr ⟨(fun h => nomatch h), Finset.mem_univ _⟩
  · rw [bigSep_map]
    exact Entails.of_eq (bigSep_congr fun q hq => congrArg cred (launch_recv c q (Finset.ne_of_mem_erase hq)))

theorem creds (c : Dev nD) : (Pipeline.launchCred O₀ c : sProp 𝕄) ⊢ credits c := by
  unfold Pipeline.launchCred credits
  rw [bigSep_univ_at _ (SemLoc.reg barS), launch_bar]
  exact sep_mono_right (creds_recv c)

end Cert.AllToAll
-- ==== Proof.Run.lean ====
/-
# The run

Every weakly fair execution of the 32 devices, whatever the float values are: it terminates, each device's result is the
activation of what landed on it, the arguments are unchanged, and every semaphore is back at zero.
-/
module

public import proofs.«01_k».proof.Proof.Launch
public import Idealize.ShloMosaic.Lib.Quiescent

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The region's two ends -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m) (wIn m) c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start G' wAll
  icases HG with ⟨HG, Hs⟩
  isplitl
  · isplitl [HG]; · iexact HG
    isplitl [Hc]; · iexact Hc
    isplitl [Hlev]; · iexact Hlev
    isplitl [Hs]; · iexact Hs
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ wbAll ysAll cmPts
  iintro ⟨Hs, -, H0, H1, H2⟩
  isplitl [Hs]; · iexact Hs
  isplitl [H0]; · iexact H0
  isplitl [H1]; · iexact H1
  iexact H2

/-- What a device keeps after the region: its barrier cell at zero, and its weights. -/
def kept (c : Dev nD) : sProp 𝕄 := iprop(unscopedSems0 c ∗ wAll (wIn m) c)

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq, ownSems0_eq]
  unfold Φ₁ left kept
  rw [unscopedSems0_eq]
  unfold wbAll ysAll cmPts
  iintro ⟨HB, Hs, HR, H0, H1, H2, Hw⟩
  isplitl [HB Hw]
  · isplitl [HB] <;> iassumption
  isplitl [Hs HR]
  · isplitl [Hs] <;> iassumption
  isplitl [H0]; · iexact H0
  isplitl [H1]; · iexact H1
  iexact H2

theorem mayWait_staging (c : Dev nD) {s : DmaSem sig} (hs : s.val < 7) (O : CellTallies nD τ sig Unit) (hO : O = O₀ c ∨ O = 0) :
    (levAts L lv : sProp 𝕄) ⊢ MayWait (c : Thread nD τ) (.dma s) () O := by
  rcases hO with rfl | rfl
  · exact mayWait_start c (role_dma_low hs)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_staging c (by fin_cases w <;> fin_cases s <;> decide) _ (by
      rcases t with ⟨_ | _, ht⟩
      · exact Or.inl rfl
      · exact Or.inr rfl)

/-- What is read of a device's unstaged state at the end: its barrier counter zero, its weights unchanged. -/
def Ends (c : Dev nD) (s : MemSt nD τ sig (Elt F)) : Prop :=
  (∀ sm : SemLoc sig, sm.isScoped .tc = false → s.sem ((c.tc : Thread nD τ), sm) = 0) ∧ s.mem ((c : Thread nD τ).loc main_arg1) = wIn m c

theorem kept_read (c : Dev nD) (s' : Phys nD τ sig (Elt F)) :
    iprop(kept m c ∗ emp ∗ SI s') ⊢ (|={Set.univ}=> iprop(⌜Ends m c s'.mem⌝ ∗ SI s') : sProp 𝕄) := by
  unfold kept wAll
  iintro ⟨⟨Hu, Hw⟩, -, HSI⟩
  icombine HSI Hw gives %h
  imod (Pipeline.unscopedSems0_read (X := unscopedSems0 c) (c := c) fupd_intro s') $$ [Hu HSI] with ⟨%h2, HSI⟩
  · isplitl [Hu] <;> iassumption
  imodintro
  isplitr
  · ipureintro
    exact ⟨h2, funext fun i => h i (Finset.mem_univ _)⟩
  · iexact HSI

/-! ## What the arrays hold -/

theorem index_zero (b : Ref sig .tc) (i : Fin b.ty.shape.rank → ℕ) (h : ∀ a, i a = 0) :
    (fun a => i a * b.ty.shape.size a) = fun _ => 0 := funext fun a => by rw [h, Nat.zero_mul]

/-- The block of x that is staged is the array. -/
theorem xIn_eq (c : Dev nD) : xIn m c = m ((c : Thread nD τ).loc main_arg0) :=
  Memref.read_access_unit_zero (Elt F) main_arg0 (index_zero main_arg0 (win0_0.index t0_0) fun a => by fin_cases a <;> decide)
    (fun a => by fin_cases a <;> decide) _

/-- The array of x after the run holds what it held; -/
theorem final_x (c : Dev nD) : (dats m 0 c).arrAt (0 : Fin 2) cfg0.N = m ((c : Thread nD τ).loc main_arg0) :=
  (dats (F := F) m 0 c).arrAt_in (0 : Fin 2) rfl _

/-- the result array, the block that was computed. -/
theorem final_out (c : Dev nD) : (dats m 0 c).arrAt (1 : Fin 2) cfg0.N = outOf m c := by
  have h : (win0_1.blk t0_0).view.read (Elt F) ((dats m 0 c).arrAt (1 : Fin 2) cfg0.N) = outOf m c := by
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 (index_zero main_v1 (win0_1.index t0_0) fun a => by fin_cases a <;> decide)
    (fun a => by fin_cases a <;> decide) _).symm.trans h

/-- What device `c`'s result array ends with: the activation of the blocks that landed on it. -/
def result (c : Dev nD) : Vec F S4096x256 .f32 :=
  k0_pay1 (landed (fun q => m ((q : Thread nD τ).loc main_arg0)) (fun q => m ((q : Thread nD τ).loc main_arg1)) c)

theorem outOf_eq (c : Dev nD) : outOf m c = result m c := by
  unfold outOf result
  rw [show xIn m = fun q : Dev nD => m ((q : Thread nD τ).loc main_arg0) from funext (xIn_eq m)]
  rfl

/-! ## The run -/

/-- What holds at the end of every run. -/
def Done (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = result m c)
    ∧ r.2.sem = fun _ => 0

set_option maxRecDepth 8000 in
/-- From any memory, with every semaphore at zero: every weakly fair execution of the kernel on the 32 devices
    terminates, faulting nowhere, and at its end `Done` holds. -/
theorem run_main : θ_run defs (onTc (τ := τ) (main (F := F))) ⟨m, fun _ => 0, ρ⟩ (Done m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G (xIn m) (wIn m)) (G' := G' (xIn m) (wIn m)) (u₀ := u₀)
    (hu₀ := by
      unfold u₀
      iintro Hu
      ihave H := (ownU_pair _ _) $$ Hu
      icases H with ⟨HP, HX⟩
      ihave H2 := (own_pair_emb _ _ _) $$ HX
      icases H2 with ⟨HE, -⟩
      imod (fund_cells (xIn m) (wIn m)) $$ [HE] with HG
      · unfold ER; iexact HE
      imodintro
      isplitl [HP] <;> iassumption)
    (hglob := glob (xIn m) (wIn m))
    (hA := fun _ _ => rfl) (hpf := fun _ k => k.elim0)
    (X := start m) (Y := kept m) (Z := fun _ => iprop(emp))
    (hX := start_intro m ρ) (hin := phi0_intro m) (hout := phi1_exit m)
    (QY := Ends m) (hY := kept_read m)
    (hQ := fun _ h hs => ⟨fun c => ⟨((h c).1 (0 : Fin 2)).trans (final_x m c), (h c).2.2.2,
        (((h c).1 (1 : Fin 2)).trans (final_out m c)).trans (outOf_eq m c)⟩,
      sem_eq_zero hs fun c => (h c).2.2.1⟩)

end Cert.AllToAll
-- ==== Proof.Block.lean ====
/-
# What one block computes, over the extended reals

At `Ideal` a rounding changes nothing, so the block that device `q` computes for device `j` is the plain product of q's
rows of x with j's columns of the weights, and a result element is the activation of one such product.
-/
module

public import proofs.«01_k».proof.Proof.Contents
public import Idealize.ShloMosaic.Lib.Pointwise
public import Idealize.ShloMosaic.PureOps.Ideal.Laws

@[expose] public section

noncomputable section

namespace Cert.AllToAll

open Cert.KernelIdeal Cert.KernelIdeal.Gen
open Idealize.ShloMosaic Idealize.ShloMosaic.TcCoe

/-- The activation of one product: `y / (1 + exp (-y))`. -/
def swish (y : Ideal .f32) : Ideal .f32 := FloatOps.divf y (FloatOps.addf (1 : EReal) (FloatOps.exp (-y : EReal)))

/-- One block, element by element: row `r` of x times column `l` of the weights. -/
theorem mmul_apply (w : Vec Ideal S4096x256 .f32) (x : Vec Ideal S128x4096 .bf16) (r : Fin 128) (l : Fin 256) :
    mmul w x (ix2 r l) = ∑ k : Fin 4096, (x (ix2 r k) : EReal) * w (ix2 k l) := by
  pointwise [mmul]

/-- What the activation stores, element by element: result row `R` reads row `R % 128` of the block that came from
    device `R / 128`. -/
theorem pay_apply (v : Vec Ideal S32x128x256 .bf16) (R : Fin 4096) (l : Fin 256) :
    k0_pay1 v (ix2 R l) = swish (v (ix3 ⟨R.val / 128, by omega⟩ ⟨R.val % 128, by omega⟩ l)) := by
  pointwise [k0_pay1, swish]
  rw [zero_sub]

end Cert.AllToAll
-- ==== Proof.Whole.lean ====
/-
# What the references compute, over the extended reals

Both references take the product of the whole x with the whole weights and apply the activation to every element; one of
them limits what it exponentiates to the range from -60 to 60.
-/
module

public import proofs.«01_k».proof.Proof.Block
public import proofs.«01_k».proof.Proof.Gen.SiluIdeal
public import proofs.«01_k».proof.Proof.Gen.ReferenceIdeal

@[expose] public section

noncomputable section

namespace Cert.AllToAll

open Idealize.ShloMosaic Idealize.ShloMosaic.TcCoe

/-- Row `R` of the whole x times column `C` of the whole weights. -/
def whole (A : FVec Ideal ⟨2, ![4096, 4096]⟩ .bf16) (W : FVec Ideal ⟨2, ![4096, 8192]⟩ .f32) (R : Fin 4096) (C : Fin 8192) : Ideal .f32 :=
  ∑ k : Fin 4096, (A (ix2 R k) : EReal) * W (ix2 k C)

section Plain
open Cert.SiluIdeal Cert.SiluIdeal.Gen

/-- The result of the reference that does not limit its exponent, of the whole arrays. -/
def plainOf (A : FVec Ideal S4096x4096 .bf16) (W : FVec Ideal S4096x8192 .f32) : FVec Ideal S4096x8192 .f32 :=
  Host.divf (Host.dotGeneral dot_S4096x4096_S4096x8192_S4096x8192_1_0_0_1_n_n none (extf .f32 A bitsLt_bf16_f32) W)
    (addf (broadcastInDim S4096x8192 ![] bcast_S_S4096x8192 (constant S_ .f32 0x3F800000#32))
      (Host.exp (Host.negf (Host.dotGeneral dot_S4096x4096_S4096x8192_S4096x8192_1_0_0_1_n_n none (extf .f32 A bitsLt_bf16_f32) W))))

/-- It is the activation of the product, element by element. -/
theorem plainOf_apply (A : FVec Ideal S4096x4096 .bf16) (W : FVec Ideal S4096x8192 .f32) (R : Fin 4096) (C : Fin 8192) :
    plainOf A W (ix2 R C) = swish (whole A W R C) := by
  pointwise [plainOf, swish, whole]

end Plain

section Limited
open Cert.ReferenceIdeal Cert.ReferenceIdeal.Gen

/-- The result of the reference that limits its exponent, of the whole arrays. -/
def limitedOf (A : FVec Ideal S4096x4096 .bf16) (W : FVec Ideal S4096x8192 .f32) : FVec Ideal S4096x8192 .f32 :=
  Host.divf (Host.dotGeneral dot_S4096x4096_S4096x8192_S4096x8192_1_0_0_1_n_n none (extf .f32 A bitsLt_bf16_f32) W)
    (addf (broadcastInDim S4096x8192 ![] bcast_S_S4096x8192 (constant S_ .f32 0x3F800000#32))
      (Host.exp (Host.negf (minimumf (broadcastInDim S4096x8192 ![] bcast_S_S4096x8192 (id (constant S_ .f32 0x42700000#32)))
        (maximumf (broadcastInDim S4096x8192 ![] bcast_S_S4096x8192 (id (constant S_ .f32 0xC2700000#32)))
          (Host.dotGeneral dot_S4096x4096_S4096x8192_S4096x8192_1_0_0_1_n_n none (extf .f32 A bitsLt_bf16_f32) W))))))

/-- The two bounds, as extended reals, are opposite. -/
theorem lower_eq : Ideal.ofBits .f32 0xC2700000#32 = -Ideal.ofBits .f32 0x42700000#32 := by
  simp [Ideal.ofBits, Ideal.ieee]

/-- Limiting an element whose magnitude is at most 60 leaves it as it is. -/
theorem limit_eq (b y : EReal) (h : max y (-y) ≤ b) : min b (max (-b) y) = y := by
  rw [max_le_iff] at h
  rw [max_eq_right (EReal.neg_le.mp h.2), min_eq_right h.1]

/-- It is the activation of the product where the product's magnitude is at most 60. -/
theorem limitedOf_apply (A : FVec Ideal S4096x4096 .bf16) (W : FVec Ideal S4096x8192 .f32) (R : Fin 4096) (C : Fin 8192)
    (h : max (whole A W R C : EReal) (-(whole A W R C : EReal)) ≤ Ideal.ofBits .f32 0x42700000#32) :
    limitedOf A W (ix2 R C) = swish (whole A W R C) := by
  have hl := limit_eq _ _ h
  unfold whole at hl
  pointwise [limitedOf, swish, whole, id_eq]
  rw [lower_eq, hl]

end Limited

end Cert.AllToAll
-- ==== Proof.Equation.lean ====
/-
# The equation

The kernel's 32 results, put side by side along the columns, are the array either reference computes of the whole
arguments; for the reference that limits its exponent, where every product's magnitude is at most 60.
-/
module

public import proofs.«01_k».proof.Proof.Whole
public import proofs.«01_k».proof.Proof.Gen.Pre_products_within_60_KernelIdeal
public import Idealize.ShloMosaic.Lib.Layout
public import Idealize.ShloMosaic.Lib.ReduceAll
public import Idealize.ShloMosaic.Lib.WordArith

@[expose] public section

noncomputable section

namespace Cert.AllToAll

open Cert.KernelIdeal Cert.KernelIdeal.Gen
open Idealize.ShloMosaic Idealize.ShloMosaic.TcCoe

variable (A : FVec Ideal ⟨2, ![4096, 4096]⟩ .bf16) (W : FVec Ideal S4096x8192 .f32)

/-- The rows of x that device `q` is given: block `q` of the whole, cut along the rows. -/
def rowsOf (q : Dev nD) : Vec Ideal S128x4096 .bf16 := Layout.block ⟨2, ![128, 4096]⟩ ⟨2, ![4096, 4096]⟩ 0 32 q A

/-- Row `r` of device `q`'s rows is row `128 q + r` of the whole. -/
theorem rowsOf_apply (q : Dev nD) (r : Fin 128) (k : Fin 4096) (hR : 128 * q.val + r.val < 4096) :
    rowsOf A q (ix2 r k) = A (ix2 ⟨128 * q.val + r.val, hR⟩ k) := by
  refine congrArg A ((eq_ix2 _).trans ?_)
  refine congrArg₂ ix2 (Fin.ext ?_) (Fin.ext rfl)
  show q.val * 128 + r.val = 128 * q.val + r.val
  omega

/-- What lands on device `j` from device `q`, element by element: an element of the whole product. -/
theorem landed_apply (q j : Dev nD) (r : Fin 128) (l : Fin 256) (hR : 128 * q.val + r.val < 4096) (hC : 256 * j.val + l.val < 8192) :
    landed (rowsOf A) (fun _ => W) j (ix3 q r l) = whole A W ⟨128 * q.val + r.val, hR⟩ ⟨256 * j.val + l.val, hC⟩ := by
  show mmul (wcol W j) (rowsOf A q) (ix2 r l) = _
  rw [mmul_apply]
  exact Finset.sum_congr rfl fun k _ => congrArg₂ (fun a b : EReal => a * b) (rowsOf_apply A q r k hR) rfl

/-- Device `j`'s result, element by element: the activation of an element of the whole product. -/
theorem result_apply (j : Dev nD) (R : Fin 4096) (l : Fin 256) (hC : 256 * j.val + l.val < 8192) :
    k0_pay1 (landed (rowsOf A) (fun _ => W) j) (ix2 R l) = swish (whole A W R ⟨256 * j.val + l.val, hC⟩) := by
  have hq : R.val / 128 < 32 := by omega
  rw [pay_apply, landed_apply A W ⟨R.val / 128, hq⟩ j ⟨R.val % 128, by omega⟩ l (by show 128 * (R.val / 128) + R.val % 128 < 4096; omega) hC]
  refine congrArg (fun r => swish (whole A W r _)) (Fin.ext ?_)
  show 128 * (R.val / 128) + R.val % 128 = R.val
  omega

/-- An array of the whole's shape that is the activation of the whole product everywhere has device `j`'s result as its
    block `j`, cut along the columns. -/
theorem result_block (V : FVec Ideal S4096x8192 .f32) (hV : ∀ R C, V (ix2 R C) = swish (whole A W R C)) (j : Dev nD) :
    k0_pay1 (landed (rowsOf A) (fun _ => W) j) = Layout.block ⟨2, ![4096, 256]⟩ ⟨2, ![4096, 8192]⟩ 1 32 j V := by
  funext i
  obtain ⟨R, l, rfl⟩ : ∃ (R : Fin 4096) (l : Fin 256), i = ix2 R l := ⟨i 0, i 1, eq_ix2 i⟩
  have hC : 256 * j.val + l.val < 8192 := by have := j.isLt; have := l.isLt; change j.val < 32 at *; omega
  rw [result_apply A W j R l hC, ← hV]
  refine congrArg V (Eq.symm ((eq_ix2 _).trans ?_))
  refine congrArg₂ ix2 (Fin.ext rfl) (Fin.ext ?_)
  show j.val * 256 + l.val = 256 * j.val + l.val
  omega

/-- The precondition, read off every device's rows, bounds every element of the whole product. -/
theorem bounded_of_pre
    (h : ∀ q : Dev nD, Cert.Pre_products_within_60_KernelIdeal.fn (F := Ideal) (rowsOf A q) W = fun _ => 1#1)
    (R : Fin 4096) (C : Fin 8192) :
    max (whole A W R C : EReal) (-(whole A W R C : EReal)) ≤ Ideal.ofBits .f32 0x42700000#32 := by
  have hq : R.val / 128 < 32 := by omega
  have hlt : 128 * (R.val / 128) + R.val % 128 < 4096 := by omega
  have e := congrFun (h ⟨R.val / 128, hq⟩) (fun a => a.elim0)
  dsimp only [Cert.Pre_products_within_60_KernelIdeal.fn] at e
  have e2 := Host.reduce_andi_all _ _ _ _ _ e (ix2 (⟨R.val % 128, by omega⟩ : Fin 128) C)
  pointwise at e2
  have hs : (∑ k : Fin 4096, (rowsOf A ⟨R.val / 128, hq⟩ (ix2 (⟨R.val % 128, by omega⟩ : Fin 128) k) : EReal) * W (ix2 k C)) = whole A W R C := by
    refine Finset.sum_congr rfl fun k _ => congrArg₂ (fun a b : EReal => a * b) ?_ rfl
    rw [rowsOf_apply A ⟨R.val / 128, hq⟩ ⟨R.val % 128, by omega⟩ k hlt]
    refine congrArg (fun r => A (ix2 r k)) (Fin.ext ?_)
    show 128 * (R.val / 128) + R.val % 128 = R.val
    omega
  rw [hs] at e2
  exact of_decide_eq_true ((WordArith.ofBool_eq_one_iff _).mp e2)

end Cert.AllToAll
-- ==== Proof.lean ====
/-
# The certificate

Assembles the run of the 32 devices, the runs of the two references, and the equation between what they leave into the
claims of Defs.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.Pre_products_within_60_KernelIdeal
public import proofs.«01_k».proof.Proof.Gen.Pre_products_within_60_ReferenceIdeal
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.AllToAll

/-- The kernel as printed and the kernel printed for the extended reals are one program: to say of its run from a memory
    of machine words that `Done` holds at the end is the same statement for both. -/
theorem same_program (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (Done (F := Bits) m)
      = θ_run (Cert.KernelIdeal.defs (F := Bits)) (onTc (τ := Cert.KernelIdeal.τ) (Cert.KernelIdeal.main (F := Bits))) ⟨m, fun _ => 0, ρ⟩
          (Done (F := Bits) m) := by
  chain_rfl

/-- The kernel as printed terminates without a fault, leaves its arguments as they were, and leaves every semaphore at
    zero. -/
theorem frame_kernel : Cert.quiescent_Kernel (hKernel := Cert.Kernel.Gen.facts) := fun m ρ _ =>
  (θ_run (Cert.Kernel.defs (F := Bits)) _ _).mono (fun _ h => ⟨fun c => ⟨(h.1 c).1, (h.1 c).2.1⟩, h.2⟩)
    ((same_program m ρ).mpr (run_main (F := Bits) m ρ))

/-- The same of the kernel over the extended reals, -/
theorem frame_kernel_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (run_main (F := Ideal) m ρ)

/-- of the reference that limits its exponent, -/
theorem frame_limited : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- and of the reference that does not. -/
theorem frame_plain : Cert.quiescent_SiluIdeal (hSiluIdeal := Cert.SiluIdeal.Gen.facts) := fun m ρ _ =>
  (θ_run Cert.SiluIdeal.defs _ _).mono (fun r h => ⟨fun c => (h c).2, sem_eq_zero_of_no_sems rfl r.2⟩)
    (Cert.SiluIdeal.Value.run (F := Ideal) m ρ)

/-- From memories that hold the blocks of the same whole arrays, the kernel's results are the blocks of the activation of
    the whole product, whatever the arguments are. -/
theorem equals_plain : Cert.algebraic_KernelIdeal_SiluIdeal (hKernelIdeal := Cert.KernelIdeal.Gen.facts) (hSiluIdeal := Cert.SiluIdeal.Gen.facts) :=
  fun m ρ m' ρ' _ hin => by
    refine ⟨plainOf _ _, (θ_run Cert.KernelIdeal.defs _ _).mono (fun r h c => ⟨(h.1 c).2.2.trans ?_, (h.1 c).1, (h.1 c).2.1⟩)
        (run_main (F := Ideal) m ρ),
      (θ_run Cert.SiluIdeal.defs _ _).mono (fun r h => h 0) (Cert.SiluIdeal.Value.run (F := Ideal) m' ρ')⟩
    unfold result
    rw [show (fun q : Dev Cert.KernelIdeal.nD => m ((q.tc : Thread Cert.KernelIdeal.nD Cert.KernelIdeal.τ).loc Cert.KernelIdeal.main_arg0)) = rowsOf _
        from funext fun q => (hin q).1,
      show (fun q : Dev Cert.KernelIdeal.nD => m ((q.tc : Thread Cert.KernelIdeal.nD Cert.KernelIdeal.τ).loc Cert.KernelIdeal.main_arg1)) = fun _ => _
        from funext fun q => (hin q).2]
    exact result_block _ _ _ (plainOf_apply _ _) c

/-- The same against the reference that limits its exponent, where every product's magnitude is at most 60. -/
theorem equals_limited : Cert.algebraic_KernelIdeal_ReferenceIdeal_pre_products_within_60_KernelIdeal (hKernelIdeal := Cert.KernelIdeal.Gen.facts)
    (hReferenceIdeal := Cert.ReferenceIdeal.Gen.facts)
    (hPre_products_within_60_KernelIdeal := Cert.Pre_products_within_60_KernelIdeal.Gen.facts) :=
  fun m ρ m' ρ' hpre hin => by
    refine ⟨limitedOf _ _, (θ_run Cert.KernelIdeal.defs _ _).mono (fun r h c => ⟨(h.1 c).2.2.trans ?_, (h.1 c).1, (h.1 c).2.1⟩)
        (run_main (F := Ideal) m ρ),
      (θ_run Cert.ReferenceIdeal.defs _ _).mono (fun r h => h 0) (Cert.ReferenceIdeal.Value.run (F := Ideal) m' ρ')⟩
    unfold result
    rw [show (fun q : Dev Cert.KernelIdeal.nD => m ((q.tc : Thread Cert.KernelIdeal.nD Cert.KernelIdeal.τ).loc Cert.KernelIdeal.main_arg0)) = rowsOf _
        from funext fun q => (hin q).1,
      show (fun q : Dev Cert.KernelIdeal.nD => m ((q.tc : Thread Cert.KernelIdeal.nD Cert.KernelIdeal.τ).loc Cert.KernelIdeal.main_arg1)) = fun _ => _
        from funext fun q => (hin q).2]
    refine result_block _ _ _ (fun R C => limitedOf_apply _ _ R C (bounded_of_pre _ _ (fun q => ?_) R C)) c
    have e := hpre q
    rw [(hin q).1, (hin q).2] at e
    exact e

theorem claim : Cert.Claim :=
  ⟨Cert.Kernel.Gen.facts, Cert.KernelIdeal.Gen.facts, Cert.ReferenceIdeal.Gen.facts, Cert.SiluIdeal.Gen.facts,
    Cert.Pre_products_within_60_KernelIdeal.Gen.facts, Cert.Pre_products_within_60_ReferenceIdeal.Gen.facts,
    frame_kernel, frame_kernel_ideal, fun m ρ _ => frame_kernel_ideal m ρ trivial, frame_limited, fun m ρ _ => frame_limited m ρ trivial,
    frame_plain, trivial, equals_plain, equals_limited⟩

end Cert.Proof

end
